-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 256, 16, 64]⟩ ⟨4, ![2, 1024, 16, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 16, 64]⟩ ⟨4, ![2, 1024, 16, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x16x64 : Shape := ⟨4, ![2, 256, 16, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  bcast_S_S512x256 : S_.BroadcastsInDim S512x256 (![] : Fin 0 → Fin S512x256.rank)
  bcast_S_S2x256x16x64 : S_.BroadcastsInDim S2x256x16x64 (![] : Fin 0 → Fin S2x256x16x64.rank)

variable [Facts]

def fn {F : FTy → Type} [FloatOps F] (main_arg0 : FVec F S2x256x512 .f32) (main_arg1 : FVec F S512x256 .f32) (main_arg2 : FVec F S2x256x16x64 .f32) (main_arg3 : FVec F S2x256x16x64 .f32) (main_arg4 : FVec F S256x512 .f32) : IVec S2x256x512 1 × IVec S512x256 1 × IVec S2x256x16x64 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S2x256x16x64 .f32 := Host.absf main_arg2
  let main_cst_1 : FVec F S_ .f32 := constant S_ .f32 0x7F800000#32
  let main_v7 : FVec F S2x256x16x64 .f32 := broadcastInDim S2x256x16x64 ![] bcast_S_S2x256x16x64 main_cst_1
  let main_v8 : IVec S2x256x16x64 1 := cmpf .olt main_v6 main_v7
  (main_v2, main_v5, main_v8)
-- ==== Pre_finite_ReferenceIdeal.lean ====
abbrev S2x256x512 : Shape := ⟨3, ![2, 256, 512]⟩
abbrev S512x1024 : Shape := ⟨2, ![512, 1024]⟩
abbrev S2x1024x16x64 : Shape := ⟨4, ![2, 1024, 16, 64]⟩
abbrev S1024x512 : Shape := ⟨2, ![1024, 512]⟩
abbrev S_ : Shape := ⟨0, ![]⟩

class Facts : Prop where
  bcast_S_S2x256x512 : S_.BroadcastsInDim S2x256x512 (![] : Fin 0 → Fin S2x256x512.rank)
  bcast_S_S512x1024 : S_.BroadcastsInDim S512x1024 (![] : Fin 0 → Fin S512x1024.rank)
  bcast_S_S2x1024x16x64 : S_.BroadcastsInDim S2x1024x16x64 (![] : Fin 0 → Fin S2x1024x16x64.rank)

variable [Facts]

def fn {F : FTy → Type} [FloatOps F] (main_arg0 : FVec F S2x256x512 .f32) (main_arg1 : FVec F S512x1024 .f32) (main_arg2 : FVec F S2x1024x16x64 .f32) (main_arg3 : FVec F S2x1024x16x64 .f32) (main_arg4 : FVec F S1024x512 .f32) : IVec S2x256x512 1 × IVec S512x1024 1 × IVec S2x1024x16x64 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_v3 : FVec F S512x1024 .f32 := Host.absf main_arg1
  let main_cst_0 : FVec F S_ .f32 := constant S_ .f32 0x7F800000#32
  let main_v4 : FVec F S512x1024 .f32 := broadcastInDim S512x1024 ![] bcast_S_S512x1024 main_cst_0
  let main_v5 : IVec S512x1024 1 := cmpf .olt main_v3 main_v4
  let main_v6 : FVec F S2x1024x16x64 .f32 := Host.absf main_arg2
  let main_cst_1 : FVec F S_ .f32 := constant S_ .f32 0x7F800000#32
  let main_v7 : FVec F S2x1024x16x64 .f32 := broadcastInDim S2x1024x16x64 ![] bcast_S_S2x1024x16x64 main_cst_1
  let main_v8 : IVec S2x1024x16x64 1 := cmpf .olt main_v6 main_v7
  (main_v2, main_v5, main_v8)
-- ==== Kernel.lean ====
abbrev S2x256x512 : Shape := ⟨3, ![2, 256, 512]⟩
abbrev S512x256 : Shape := ⟨2, ![512, 256]⟩
abbrev S2x256x16x64 : Shape := ⟨4, ![2, 256, 16, 64]⟩
abbrev S256x512 : Shape := ⟨2, ![256, 512]⟩
abbrev S2x256x4x64 : Shape := ⟨4, ![2, 256, 4, 64]⟩
abbrev S3x256x512 : Shape := ⟨3, ![3, 256, 512]⟩
abbrev S3 : Shape := ⟨1, ![3]⟩
abbrev S_ : Shape := ⟨0, ![]⟩
abbrev S1x256x512 : Shape := ⟨3, ![1, 256, 512]⟩
abbrev S256x256 : Shape := ⟨2, ![256, 256]⟩
abbrev S1 : Shape := ⟨1, ![1]⟩
abbrev S1x256x4x64 : Shape := ⟨4, ![1, 256, 4, 64]⟩
abbrev S256x4x64 : Shape := ⟨3, ![256, 4, 64]⟩
abbrev S256x64 : Shape := ⟨2, ![256, 64]⟩
abbrev S256x1x64 : Shape := ⟨3, ![256, 1, 64]⟩
abbrev S256 : Shape := ⟨1, ![256]⟩
abbrev S256x1 : Shape := ⟨2, ![256, 1]⟩
abbrev S64x512 : Shape := ⟨2, ![64, 512]⟩

abbrev nBuf : Space → Nat
  | .hbm => 6
  | .vmem => 12
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x16x64, .f32⟩
  | .hbm, ⟨3, _⟩ => ⟨S2x256x16x64, .f32⟩
  | .hbm, ⟨4, _⟩ => ⟨S256x512, .f32⟩
  | .hbm, ⟨5, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S2x256x16x64, .f32⟩
  | .local _ .vmem, ⟨3, _⟩ => ⟨S2x256x16x64, .f32⟩
  | .local _ .vmem, ⟨4, _⟩ => ⟨S256x512, .f32⟩
  | .local _ .vmem, ⟨5, _⟩ => ⟨S2x256x512, .f32⟩
  | .local _ .vmem, ⟨6, _⟩ => ⟨S2x256x4x64, .f32⟩
  | .local _ .vmem, ⟨7, _⟩ => ⟨S2x256x4x64, .f32⟩
  | .local _ .vmem, ⟨8, _⟩ => ⟨S2x256x512, .f32⟩
  | .local _ .vmem, ⟨9, _⟩ => ⟨S3x256x512, .f32⟩
  | .local _ .vmem, ⟨10, _⟩ => ⟨S256x512, .f32⟩
  | .local _ .vmem, ⟨11, _⟩ => ⟨S256x512, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_9 : BitVec 32 := 1#32
  let v14 : BitVec 32 := Scalar.addi v2 c1_i32_9
  let c4_i32_10 : BitVec 32 := 4#32
  let c0_i32 : BitVec 32 := 0#32
  let v15 : BitVec 1 := Scalar.cmpi .eq c4_i32_10 c0_i32
  let c1_i32_11 : BitVec 32 := 1#32
  let v16 : BitVec 32 := Scalar.select v15 c1_i32_11 c4_i32_10
  let v17 : BitVec 32 := Scalar.remsi v14 v16
  let c0_i32_13 : BitVec 32 := 0#32
  let v19 : BitVec 1 := Scalar.cmpi .slt v17 c0_i32_13
  let c0_i32_14 : BitVec 32 := 0#32
  let v20 : BitVec 1 := Scalar.cmpi .slt v16 c0_i32_14
  let v21 : BitVec 1 := Scalar.xori v19 v20
  let c0_i32_12 : BitVec 32 := 0#32
  let v18 : BitVec 1 := Scalar.cmpi .ne v17 c0_i32_12
  let v22 : BitVec 1 := Scalar.andi v21 v18
  let v23 : BitVec 32 := Scalar.addi v17 v16
  let v24 : BitVec 32 := Scalar.select v22 v23 v17
  let c1_i32_16 : BitVec 32 := 1#32
  let v25 : BitVec 32 := Scalar.muli v24 c1_i32_16
  let v26 : BitVec 32 := Scalar.addi c0_i32_17 v25
  v26.toNat
def k0_dev2 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v27 : BitVec 32 := Scalar.addi v2 c2_i32
  let c4_i32_18 : BitVec 32 := 4#32
  let c0_i32_19 : BitVec 32 := 0#32
  let v28 : BitVec 1 := Scalar.cmpi .eq c4_i32_18 c0_i32_19
  let c1_i32_20 : BitVec 32 := 1#32
  let v29 : BitVec 32 := Scalar.select v28 c1_i32_20 c4_i32_18
  let v30 : BitVec 32 := Scalar.remsi v27 v29
  let c0_i32_22 : BitVec 32 := 0#32
  let v32 : BitVec 1 := Scalar.cmpi .slt v30 c0_i32_22
  let c0_i32_23 : BitVec 32 := 0#32
  let v33 : BitVec 1 := Scalar.cmpi .slt v29 c0_i32_23
  let v34 : BitVec 1 := Scalar.xori v32 v33
  let c0_i32_21 : BitVec 32 := 0#32
  let v31 : BitVec 1 := Scalar.cmpi .ne v30 c0_i32_21
  let v35 : BitVec 1 := Scalar.andi v34 v31
  let v36 : BitVec 32 := Scalar.addi v30 v29
  let v37 : BitVec 32 := Scalar.select v35 v36 v30
  let c1_i32_25 : BitVec 32 := 1#32
  let v38 : BitVec 32 := Scalar.muli v37 c1_i32_25
  let v39 : BitVec 32 := Scalar.addi c0_i32_26 v38
  v39.toNat
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v40 : BitVec 32 := Scalar.addi v2 c3_i32
  let c4_i32_27 : BitVec 32 := 4#32
  let c0_i32_28 : BitVec 32 := 0#32
  let v41 : BitVec 1 := Scalar.cmpi .eq c4_i32_27 c0_i32_28
  let c1_i32_29 : BitVec 32 := 1#32
  let v42 : BitVec 32 := Scalar.select v41 c1_i32_29 c4_i32_27
  let v43 : BitVec 32 := Scalar.remsi v40 v42
  let c0_i32_31 : BitVec 32 := 0#32
  let v45 : BitVec 1 := Scalar.cmpi .slt v43 c0_i32_31
  let c0_i32_32 : BitVec 32 := 0#32
  let v46 : BitVec 1 := Scalar.cmpi .slt v42 c0_i32_32
  let v47 : BitVec 1 := Scalar.xori v45 v46
  let c0_i32_30 : BitVec 32 := 0#32
  let v44 : BitVec 1 := Scalar.cmpi .ne v43 c0_i32_30
  let v48 : BitVec 1 := Scalar.andi v47 v44
  let v49 : BitVec 32 := Scalar.addi v43 v42
  let v50 : BitVec 32 := Scalar.select v48 v49 v43
  let c1_i32_34 : BitVec 32 := 1#32
  let v51 : BitVec 32 := Scalar.muli v50 c1_i32_34
  let v52 : BitVec 32 := Scalar.addi c0_i32_35 v51
  v52.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_37 : BitVec 32 := 0#32
  let v53 : BitVec 1 := Scalar.cmpi .eq v2 c0_i32_37
  let v54 : BitVec 32 := Scalar.extui v53
  let c0_i32_44 : BitVec 32 := 0#32
  let v55 : BitVec 1 := Scalar.cmpi .ne v54 c0_i32_44
  v55

def k0_dev4 : Nat :=
  let c0_i32_247 : BitVec 32 := 0#32
  let c2_i32_245 : BitVec 32 := 2#32
  let c1_i32_246 : BitVec 32 := 1#32
  let v407 : BitVec 32 := Scalar.muli c2_i32_245 c1_i32_246
  let v408 : BitVec 32 := Scalar.addi c0_i32_247 v407
  v408.toNat
def k0_dev5 : Nat :=
  let c0_i32_253 : BitVec 32 := 0#32
  let c2_i32_251 : BitVec 32 := 2#32
  let c1_i32_252 : BitVec 32 := 1#32
  let v412 : BitVec 32 := Scalar.muli c2_i32_251 c1_i32_252
  let v413 : BitVec 32 := Scalar.addi c0_i32_253 v412
  v413.toNat
def k0_dev6 : Nat :=
  let c0_i32_260 : BitVec 32 := 0#32
  let c1_i32_258 : BitVec 32 := 1#32
  let c1_i32_259 : BitVec 32 := 1#32
  let v417 : BitVec 32 := Scalar.muli c1_i32_258 c1_i32_259
  let v418 : BitVec 32 := Scalar.addi c0_i32_260 v417
  v418.toNat
def k0_dev7 : Nat :=
  let c0_i32_267 : BitVec 32 := 0#32
  let c1_i32_265 : BitVec 32 := 1#32
  let c1_i32_266 : BitVec 32 := 1#32
  let v422 : BitVec 32 := Scalar.muli c1_i32_265 c1_i32_266
  let v423 : BitVec 32 := Scalar.addi c0_i32_267 v422
  v423.toNat
def k0_dev8 : Nat :=
  let c0_i32_274 : BitVec 32 := 0#32
  let c3_i32_272 : BitVec 32 := 3#32
  let c1_i32_273 : BitVec 32 := 1#32
  let v427 : BitVec 32 := Scalar.muli c3_i32_272 c1_i32_273
  let v428 : BitVec 32 := Scalar.addi c0_i32_274 v427
  v428.toNat
def k0_dev9 : Nat :=
  let c0_i32_280 : BitVec 32 := 0#32
  let c3_i32_278 : BitVec 32 := 3#32
  let c1_i32_279 : BitVec 32 := 1#32
  let v432 : BitVec 32 := Scalar.muli c3_i32_278 c1_i32_279
  let v433 : BitVec 32 := Scalar.addi c0_i32_280 v432
  v433.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_145 : BitVec 32 := 0#32
  let v313 : BitVec 1 := Scalar.cmpi .sgt v2 c0_i32_145
  let v314 : BitVec 32 := Scalar.extui v313
  let c0_i32_146 : BitVec 32 := 0#32
  let v315 : BitVec 1 := Scalar.cmpi .slt v2 c0_i32_146
  let v316 : BitVec 32 := Scalar.extui v315
  let v317 : BitVec 32 := Scalar.subi v314 v316
  let c2_i32_144 : BitVec 32 := 2#32
  let c0_i32_147 : BitVec 32 := 0#32
  let v318 : BitVec 1 := Scalar.cmpi .sgt c2_i32_144 c0_i32_147
  let v319 : BitVec 32 := Scalar.extui v318
  let c0_i32_148 : BitVec 32 := 0#32
  let v320 : BitVec 1 := Scalar.cmpi .slt c2_i32_144 c0_i32_148
  let v321 : BitVec 32 := Scalar.extui v320
  let v322 : BitVec 32 := Scalar.subi v319 v321
  let v323 : BitVec 1 := Scalar.cmpi .ne v317 v322
  let v324 : BitVec 32 := Scalar.remsi v2 c2_i32_144
  let c0_i32_149 : BitVec 32 := 0#32
  let v325 : BitVec 1 := Scalar.cmpi .ne v324 c0_i32_149
  let v326 : BitVec 1 := Scalar.andi v323 v325
  let v312 : BitVec 32 := Scalar.divsi v2 c2_i32_144
  let c1_i32_150 : BitVec 32 := 1#32
  let v327 : BitVec 32 := Scalar.subi v312 c1_i32_150
  let v328 : BitVec 32 := Scalar.select v326 v327 v312
  let c0_i32_151 : BitVec 32 := 0#32
  let v329 : BitVec 1 := Scalar.cmpi .eq v328 c0_i32_151
  let v332 : BitVec 32 := Scalar.extui v329
  let c0_i32_158 : BitVec 32 := 0#32
  let v333 : BitVec 1 := Scalar.cmpi .ne v332 c0_i32_158
  v333

def k0_dev10 (d0 : Dev nD) : Nat :=
  let c0_i32_246 : BitVec 32 := 0#32
  let c3_i32_152 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v330 : BitVec 32 := Scalar.subi c3_i32_152 v2
  let c1_i32_245 : BitVec 32 := 1#32
  let v407 : BitVec 32 := Scalar.muli v330 c1_i32_245
  let v408 : BitVec 32 := Scalar.addi c0_i32_246 v407
  v408.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_145 : BitVec 32 := 0#32
  let v313 : BitVec 1 := Scalar.cmpi .sgt v2 c0_i32_145
  let v314 : BitVec 32 := Scalar.extui v313
  let c0_i32_146 : BitVec 32 := 0#32
  let v315 : BitVec 1 := Scalar.cmpi .slt v2 c0_i32_146
  let v316 : BitVec 32 := Scalar.extui v315
  let v317 : BitVec 32 := Scalar.subi v314 v316
  let c2_i32_144 : BitVec 32 := 2#32
  let c0_i32_147 : BitVec 32 := 0#32
  let v318 : BitVec 1 := Scalar.cmpi .sgt c2_i32_144 c0_i32_147
  let v319 : BitVec 32 := Scalar.extui v318
  let c0_i32_148 : BitVec 32 := 0#32
  let v320 : BitVec 1 := Scalar.cmpi .slt c2_i32_144 c0_i32_148
  let v321 : BitVec 32 := Scalar.extui v320
  let v322 : BitVec 32 := Scalar.subi v319 v321
  let v323 : BitVec 1 := Scalar.cmpi .ne v317 v322
  let v324 : BitVec 32 := Scalar.remsi v2 c2_i32_144
  let c0_i32_149 : BitVec 32 := 0#32
  let v325 : BitVec 1 := Scalar.cmpi .ne v324 c0_i32_149
  let v326 : BitVec 1 := Scalar.andi v323 v325
  let v312 : BitVec 32 := Scalar.divsi v2 c2_i32_144
  let c1_i32_150 : BitVec 32 := 1#32
  let v327 : BitVec 32 := Scalar.subi v312 c1_i32_150
  let v328 : BitVec 32 := Scalar.select v326 v327 v312
  let c0_i32_151 : BitVec 32 := 0#32
  let v329 : BitVec 1 := Scalar.cmpi .eq v328 c0_i32_151
  let true_159 : BitVec 1 := 1#1
  let v334 : BitVec 1 := Scalar.xori v329 true_159
  let v335 : BitVec 32 := Scalar.extui v334
  let c0_i32_164 : BitVec 32 := 0#32
  let v336 : BitVec 1 := Scalar.cmpi .ne v335 c0_i32_164
  v336

def k0_dev11 (d0 : Dev nD) : Nat :=
  let c0_i32_246 : BitVec 32 := 0#32
  let c3_i32_152 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v330 : BitVec 32 := Scalar.subi c3_i32_152 v2
  let c1_i32_245 : BitVec 32 := 1#32
  let v407 : BitVec 32 := Scalar.muli v330 c1_i32_245
  let v408 : BitVec 32 := Scalar.addi c0_i32_246 v407
  v408.toNat
def k0_dev12 (d0 : Dev nD) : Nat :=
  let c0_i32_182 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_153 : BitVec 32 := 1#32
  let v331 : BitVec 32 := Scalar.xori v2 c1_i32_153
  let c1_i32_181 : BitVec 32 := 1#32
  let v350 : BitVec 32 := Scalar.muli v331 c1_i32_181
  let v351 : BitVec 32 := Scalar.addi c0_i32_182 v350
  v351.toNat
def k0_dev13 (d0 : Dev nD) : Nat :=
  let c0_i32_203 : BitVec 32 := 0#32
  let c3_i32_152 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v330 : BitVec 32 := Scalar.subi c3_i32_152 v2
  let c1_i32_202 : BitVec 32 := 1#32
  let v371 : BitVec 32 := Scalar.muli v330 c1_i32_202
  let v372 : BitVec 32 := Scalar.addi c0_i32_203 v371
  v372.toNat
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x256x512 : Shape := ⟨3, ![2, 256, 512]⟩
abbrev S512x1024 : Shape := ⟨2, ![512, 1024]⟩
abbrev S2x1024x16x64 : Shape := ⟨4, ![2, 1024, 16, 64]⟩
abbrev S1024x512 : Shape := ⟨2, ![1024, 512]⟩
abbrev S2x256x1024 : Shape := ⟨3, ![2, 256, 1024]⟩
abbrev S2x256x16x64 : Shape := ⟨4, ![2, 256, 16, 64]⟩
abbrev S256 : Shape := ⟨1, ![256]⟩
abbrev S_ : Shape := ⟨0, ![]⟩
abbrev S256x1 : Shape := ⟨2, ![256, 1]⟩
abbrev S1024 : Shape := ⟨1, ![1024]⟩
abbrev S1x1024 : Shape := ⟨2, ![1, 1024]⟩
abbrev S256x1024 : Shape := ⟨2, ![256, 1024]⟩
abbrev S2x16x256x1024 : Shape := ⟨4, ![2, 16, 256, 1024]⟩
abbrev S1x1x256x1024 : Shape := ⟨4, ![1, 1, 256, 1024]⟩
abbrev S2x16x256 : Shape := ⟨3, ![2, 16, 256]⟩
abbrev S2x16x256x1 : Shape := ⟨4, ![2, 16, 256, 1]⟩
abbrev S1x1x256x1 : Shape := ⟨4, ![1, 1, 256, 1]⟩
abbrev S2x16x64x256 : Shape := ⟨4, ![2, 16, 64, 256]⟩

abbrev nBuf : Space → Nat
  | .hbm => 89
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S512x1024, .f32⟩
  | .hbm, ⟨2, _⟩ => ⟨S2x1024x16x64, .f32⟩
  | .hbm, ⟨3, _⟩ => ⟨S2x1024x16x64, .f32⟩
  | .hbm, ⟨4, _⟩ => ⟨S1024x512, .f32⟩
  | .hbm, ⟨5, _⟩ => ⟨S2x256x1024, .f32⟩
  | .hbm, ⟨6, _⟩ => ⟨S2x256x16x64, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1x1024, .i32⟩
  | .hbm, ⟨47, _⟩ => ⟨S256x1024, .i32⟩
  | .hbm, ⟨48, _⟩ => ⟨S256x1024, .i32⟩
  | .hbm, ⟨49, _⟩ => ⟨S256x1024, .i1⟩
  | .hbm, ⟨50, _⟩ => ⟨S2x16x256x1024, .f32⟩
  | .hbm, ⟨51, _⟩ => ⟨S_, .f32⟩
  | .hbm, ⟨52, _⟩ => ⟨S2x16x256x1024, .f32⟩
  | .hbm, ⟨53, _⟩ => ⟨S2x16x256x1024, .f32⟩
  | .hbm, ⟨54, _⟩ => ⟨S1x1x256x1024, .i1⟩
  | .hbm, ⟨55, _⟩ => ⟨S_, .f32⟩
  | .hbm, ⟨56, _⟩ => ⟨S_, .f32⟩
  | .hbm, ⟨57, _⟩ => ⟨S2x16x256x1024, .i1⟩
  | .hbm, ⟨58, _⟩ => ⟨S2x16x256x1024, .f32⟩
  | .hbm, ⟨59, _⟩ => ⟨S2x16x256x1024, .f32⟩
  | .hbm, ⟨60, _⟩ => ⟨S_, .f32⟩
  | .hbm, ⟨61, _⟩ => ⟨S2x16x256, .f32⟩
  | .hbm, ⟨62, _⟩ => ⟨S2x16x256x1, .f32⟩
  | .hbm, ⟨63, _⟩ => ⟨S2x16x256x1024, .f32⟩
  | .hbm, ⟨64, _⟩ => ⟨S2x16x256x1024, .f32⟩
  | .hbm, ⟨65, _⟩ => ⟨S2x16x256x1024, .f32⟩
  | .hbm, ⟨66, _⟩ => ⟨S_, .i1⟩
  | .hbm, ⟨67, _⟩ => ⟨S256, .i1⟩
  | .hbm, ⟨68, _⟩ => ⟨S1x1x256x1, .i1⟩
  | .hbm, ⟨69, _⟩ => ⟨S_, .f32⟩
  | .hbm, ⟨70, _⟩ => ⟨S2x16x256, .f32⟩
  | .hbm, ⟨71, _⟩ => ⟨S2x16x256x1, .f32⟩
  | .hbm, ⟨72, _⟩ => ⟨S_, .f32⟩
  | .hbm, ⟨73, _⟩ => ⟨S_, .f32⟩
  | .hbm, ⟨74, _⟩ => ⟨S2x16x256x1, .i1⟩
  | .hbm, ⟨75, _⟩ => ⟨S2x16x256x1, .f32⟩
  | .hbm, ⟨76, _⟩ => ⟨S2x16x256x1, .f32⟩
  | .hbm, ⟨77, _⟩ => ⟨S2x16x256x1024, .f32⟩
  | .hbm, ⟨78, _⟩ => ⟨S2x16x256x1024, .f32⟩
  | .hbm, ⟨79, _⟩ => ⟨S1x1x256x1, .i1⟩
  | .hbm, ⟨80, _⟩ => ⟨S_, .f32⟩
  | .hbm, ⟨81, _⟩ => ⟨S_, .f32⟩
  | .hbm, ⟨82, _⟩ => ⟨S2x16x256x1024, .i1⟩
  | .hbm, ⟨83, _⟩ => ⟨S2x16x256x1024, .f32⟩
  | .hbm, ⟨84, _⟩ => ⟨S2x16x256x1024, .f32⟩
  | .hbm, ⟨85, _⟩ => ⟨S2x16x64x256, .f32⟩
  | .hbm, ⟨86, _⟩ => ⟨S2x256x16x64, .f32⟩
  | .hbm, ⟨87, _⟩ => ⟨S2x256x1024, .f32⟩
  | .hbm, ⟨88, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Common.lean ====
/-
The cross-device protocol of the attention kernel, written down: the buffers and semaphores by name, the contents each
copy hands over, who pays which semaphore, what each device owes at launch, and the levels that order the waits.

Devices 0..3 hold four query heads each. Device 0 alone holds the keys and values that matter: it copies heads 4..7,
8..11, 12..15 of its keys and values to devices 1, 2, 3 and keeps heads 0..3. Each device computes its heads' contribution
to both batch rows (`part`), and three exchanges add the contributions up: half of `part` with device 3 - c, the sum of
one row with device c xor 1, the finished row with device 3 - c again.

Semaphores, in the order of `csem`: 0 the entry barrier; 1, 2, 3 key copies leaving device 0; 4, 5, 6 value copies leaving
device 0; 7, 8 the key and the value copy arriving; 9, 10, 11 the three exchanges leaving; 12, 13, 14 the three arriving.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ViewIndex
public import Idealize.ShloMosaic.Lib.ReshapeSlab
public import Idealize.ShloMosaic.Lib.Tactic

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline's and the protocol's, duties named by the paying device -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The partners -/

set_option backward.proofsInPublic true in
/-- The partner of the first and of the last exchange: device 3 - c. -/
def p1 (c : Dev nD) : Dev nD := ⟨3 - c.val, by show 3 - c.val < 4; omega⟩
set_option backward.proofsInPublic true in
/-- The partner of the middle exchange: the other device of the pair 0, 1 or 2, 3. -/
def p2 (c : Dev nD) : Dev nD := match c with | 0 => 1 | 1 => 0 | 2 => 3 | 3 => 2

theorem p1_p1 (c : Dev nD) : p1 (p1 c) = c := by revert c; decide
theorem p2_p2 (c : Dev nD) : p2 (p2 c) = c := by revert c; decide

/-! ## The memrefs -/

abbrev xM : Memref sig .tc .vmem S2x256x512 .f32 := Memref.whole cc0_stg0_0
abbrev wqM : Memref sig .tc .vmem S512x256 .f32 := Memref.whole cc0_stg1_0
abbrev kM : Memref sig .tc .vmem S2x256x16x64 .f32 := Memref.whole cc0_stg2_0
abbrev vM : Memref sig .tc .vmem S2x256x16x64 .f32 := Memref.whole cc0_stg3_0
abbrev woM : Memref sig .tc .vmem S256x512 .f32 := Memref.whole cc0_stg4_0
abbrev oM : Memref sig .tc .vmem S2x256x512 .f32 := Memref.whole cc0_stg5_0
abbrev kbM : Memref sig .tc .vmem S2x256x4x64 .f32 := Memref.whole cc0_scratch0
abbrev vbM : Memref sig .tc .vmem S2x256x4x64 .f32 := Memref.whole cc0_scratch1
abbrev ptM : Memref sig .tc .vmem S2x256x512 .f32 := Memref.whole cc0_scratch2
abbrev rbM : Memref sig .tc .vmem S3x256x512 .f32 := Memref.whole cc0_scratch3
abbrev sbM : Memref sig .tc .vmem S256x512 .f32 := Memref.whole cc0_scratch4
abbrev tbM : Memref sig .tc .vmem S256x512 .f32 := Memref.whole cc0_scratch5

/-- The rows of a two-row buffer, as rectangles; -/
abbrev row0 : Rect S2x256x512 := Rect.unit (s := S2x256x512) ![0, 0, 0] S1x256x512.size inb_S2x256x512_S1x256x512_0_0_0
abbrev row1 : Rect S2x256x512 := Rect.unit (s := S2x256x512) ![1, 0, 0] S1x256x512.size inb_S2x256x512_S1x256x512_1_0_0
/-- the slots of the three-slot landing buffer; -/
abbrev slotR0 : Rect S3x256x512 := Rect.unit (s := S3x256x512) ![0, 0, 0] S1x256x512.size inb_S3x256x512_S1x256x512_0_0_0
abbrev slotR1 : Rect S3x256x512 := Rect.unit (s := S3x256x512) ![1, 0, 0] S1x256x512.size inb_S3x256x512_S1x256x512_1_0_0
abbrev slotR2 : Rect S3x256x512 := Rect.unit (s := S3x256x512) ![2, 0, 0] S1x256x512.size inb_S3x256x512_S1x256x512_2_0_0
/-- the four groups of four heads; -/
abbrev hd0 : Rect S2x256x16x64 := Rect.unit (s := S2x256x16x64) ![0, 0, 0, 0] S2x256x4x64.size inb_S2x256x16x64_S2x256x4x64_0_0_0_0
abbrev hd4 : Rect S2x256x16x64 := Rect.unit (s := S2x256x16x64) ![0, 0, 4, 0] S2x256x4x64.size inb_S2x256x16x64_S2x256x4x64_0_0_4_0
abbrev hd8 : Rect S2x256x16x64 := Rect.unit (s := S2x256x16x64) ![0, 0, 8, 0] S2x256x4x64.size inb_S2x256x16x64_S2x256x4x64_0_0_8_0
abbrev hd12 : Rect S2x256x16x64 := Rect.unit (s := S2x256x16x64) ![0, 0, 12, 0] S2x256x4x64.size inb_S2x256x16x64_S2x256x4x64_0_0_12_0
/-- the batch rows of the four-head buffers. -/
abbrev kv0 : Rect S2x256x4x64 := Rect.unit (s := S2x256x4x64) ![0, 0, 0, 0] S1x256x4x64.size inb_S2x256x4x64_S1x256x4x64_0_0_0_0
abbrev kv1 : Rect S2x256x4x64 := Rect.unit (s := S2x256x4x64) ![1, 0, 0, 0] S1x256x4x64.size inb_S2x256x4x64_S1x256x4x64_1_0_0_0
abbrev wqR : Rect S512x256 := Rect.unit (s := S512x256) ![0, 0] S512x256.size inb_S512x256_S512x256_0_0
abbrev woR : Rect S256x512 := Rect.unit (s := S256x512) ![0, 0] S256x512.size inb_S256x512_S256x512_0_0

abbrev k4M : Memref sig .tc .vmem S2x256x4x64 .f32 := kM.slice hd4 (fun _ => rfl)
abbrev k8M : Memref sig .tc .vmem S2x256x4x64 .f32 := kM.slice hd8 (fun _ => rfl)
abbrev k12M : Memref sig .tc .vmem S2x256x4x64 .f32 := kM.slice hd12 (fun _ => rfl)
abbrev v4M : Memref sig .tc .vmem S2x256x4x64 .f32 := vM.slice hd4 (fun _ => rfl)
abbrev v8M : Memref sig .tc .vmem S2x256x4x64 .f32 := vM.slice hd8 (fun _ => rfl)
abbrev v12M : Memref sig .tc .vmem S2x256x4x64 .f32 := vM.slice hd12 (fun _ => rfl)
abbrev pt0M : Memref sig .tc .vmem S1x256x512 .f32 := ptM.slice row0 (fun _ => rfl)
abbrev pt1M : Memref sig .tc .vmem S1x256x512 .f32 := ptM.slice row1 (fun _ => rfl)
abbrev r0M : Memref sig .tc .vmem S1x256x512 .f32 := rbM.slice slotR0 (fun _ => rfl)
abbrev r1M : Memref sig .tc .vmem S1x256x512 .f32 := rbM.slice slotR1 (fun _ => rfl)
abbrev r2M : Memref sig .tc .vmem S1x256x512 .f32 := rbM.slice slotR2 (fun _ => rfl)
/-- A one-row view with the row coordinate dropped. -/
abbrev sq (M : Memref sig .tc .vmem S1x256x512 .f32) : Memref sig .tc .vmem S256x512 .f32 := M.squeeze S256x512 squeezes_S1x256x512_S256x512

/-! ## The contents -/

/-- The operands as staged on device `c`. -/
def xs (c : Dev nD) : (cc0_stg0_0 : Ref sig .tc).ty.Contents (Elt F) := (win0_0.blk (0 : Fin 1)).view.read (Elt F) (m ((c : Thread nD τ).loc main_arg0))
def wqs (c : Dev nD) : (cc0_stg1_0 : Ref sig .tc).ty.Contents (Elt F) := (win0_1.blk (0 : Fin 1)).view.read (Elt F) (m ((c : Thread nD τ).loc main_arg1))
def ks (c : Dev nD) : (cc0_stg2_0 : Ref sig .tc).ty.Contents (Elt F) := (win0_2.blk (0 : Fin 1)).view.read (Elt F) (m ((c : Thread nD τ).loc main_arg2))
def vs (c : Dev nD) : (cc0_stg3_0 : Ref sig .tc).ty.Contents (Elt F) := (win0_3.blk (0 : Fin 1)).view.read (Elt F) (m ((c : Thread nD τ).loc main_arg3))
def wos (c : Dev nD) : (cc0_stg4_0 : Ref sig .tc).ty.Contents (Elt F) := (win0_4.blk (0 : Fin 1)).view.read (Elt F) (m ((c : Thread nD τ).loc main_arg4))

/-- A row with a leading coordinate of size one added. -/
abbrev up (X : Vec F S256x512 .f32) : Vec F S1x256x512 .f32 := shapeCast S1x256x512 X shapeCasts_S256x512_S1x256x512

/-- The contribution to batch row 0 of a query block, an output block, and row 0 of four heads' keys and values. -/
def attn0 (q : FVec F S256x256 .f32) (wo : Vec F S256x512 .f32) (kk vv : Vec F S1x256x4x64 .f32) : FVec F S1x256x512 .f32 :=
  k0_pay19 (k0_pay9 k0_pay5 k0_pay6 k0_pay7 k0_pay8) (k0_pay10 wo) (k0_pay12 vv)
    (k0_pay16 q (k0_pay9 k0_pay5 k0_pay6 k0_pay7 k0_pay8) (k0_pay10 wo) (k0_pay11 kk) (k0_pay12 vv)
      (k0_pay13 q k0_pay5 k0_pay6 k0_pay7 k0_pay8 wo kk vv) (k0_pay14 q) (k0_pay15 kk))
    (k0_pay17 q) (k0_pay18 (k0_pay11 kk))
/-- The same to batch row 1. -/
def attn1 (q : FVec F S256x256 .f32) (wo : Vec F S256x512 .f32) (kk vv : Vec F S1x256x4x64 .f32) : FVec F S1x256x512 .f32 :=
  k0_pay30 q (k0_pay9 k0_pay5 k0_pay6 k0_pay7 k0_pay8) (k0_pay10 wo) (k0_pay20 kk) (k0_pay21 vv)
    (k0_pay26 q (k0_pay9 k0_pay5 k0_pay6 k0_pay7 k0_pay8) (k0_pay10 wo) (k0_pay20 kk) (k0_pay21 vv) (k0_pay22 (F := F)) (k0_pay23 vv)
      (k0_pay24 q kk) (k0_pay25 (F := F)))
    (k0_pay27 (k0_pay21 vv)) (k0_pay28 q (k0_pay20 kk)) (k0_pay29 (F := F))

/-- What the four-head key buffer of device `c` holds once the keys are dealt; -/
def kcont (c : Dev nD) : Vec F S2x256x4x64 .f32 := match c with
  | 0 => k0_pay3 (kM.view.readAt (Elt F) hd0.toLoadRect (ks m 0))
  | 1 => k4M.view.read (Elt F) (ks m 0)
  | 2 => k8M.view.read (Elt F) (ks m 0)
  | 3 => k12M.view.read (Elt F) (ks m 0)
/-- and the value buffer. -/
def vcont (c : Dev nD) : Vec F S2x256x4x64 .f32 := match c with
  | 0 => k0_pay4 (vM.view.readAt (Elt F) hd0.toLoadRect (vs m 0))
  | 1 => v4M.view.read (Elt F) (vs m 0)
  | 2 => v8M.view.read (Elt F) (vs m 0)
  | 3 => v12M.view.read (Elt F) (vs m 0)

/-- Device `c`'s contribution to batch rows 0 and 1. -/
def P0 (c : Dev nD) : Vec F S1x256x512 .f32 :=
  attn0 (k0_pay1 (xM.view.readAt (Elt F) row0.toLoadRect (xs m c)) (wqM.view.readAt (Elt F) wqR.toLoadRect (wqs m c)))
    (woM.view.readAt (Elt F) woR.toLoadRect (wos m c)) (kbM.view.readAt (Elt F) kv0.toLoadRect (kcont m c)) (vbM.view.readAt (Elt F) kv0.toLoadRect (vcont m c))
def P1 (c : Dev nD) : Vec F S1x256x512 .f32 :=
  attn1 (k0_pay2 (xM.view.readAt (Elt F) row1.toLoadRect (xs m c)) (wqM.view.readAt (Elt F) wqR.toLoadRect (wqs m c)))
    (woM.view.readAt (Elt F) woR.toLoadRect (wos m c)) (kbM.view.readAt (Elt F) kv1.toLoadRect (kcont m c)) (vbM.view.readAt (Elt F) kv1.toLoadRect (vcont m c))

/-- What lands in slot 0 of device `c`: the partner's contribution to the row `c` keeps; -/
def X0 (c : Dev nD) : Vec F S1x256x512 .f32 := if c.val < 2 then P0 m (p1 c) else P1 m (p1 c)
/-- the sum of two contributions; -/
def sbv (c : Dev nD) : Vec F S256x512 .f32 := if c.val < 2 then k0_pay31 (P0 m c) (X0 m c) else k0_pay32 (P1 m c) (X0 m c)
/-- what lands in slot 1; -/
def X1 (c : Dev nD) : Vec F S1x256x512 .f32 := up (sbv m (p2 c))
/-- the finished row; -/
def tbv (c : Dev nD) : Vec F S256x512 .f32 := k0_pay33 (sbv m c) (X1 m c)
/-- what lands in slot 2: the other finished row. -/
def X2 (c : Dev nD) : Vec F S1x256x512 .f32 := up (tbv m (p1 c))

set_option backward.proofsInPublic true in
/-- The place in a single row that a place in a two-row buffer stands over. -/
def rowIdx (i : S2x256x512.Idx) : S1x256x512.Idx := Fin.cons (0 : Fin 1) (Fin.cons (i 1) (Fin.cons (i 2) fun a => a.elim0))
/-- Two rows, as the contents of a two-row buffer. -/
def asm (A B : Vec F S1x256x512 .f32) : Vec F S2x256x512 .f32 := fun i => if (i 0).val = 0 then A (rowIdx i) else B (rowIdx i)

/-- What the output staging buffer of device `c` holds in the end. -/
def outv (c : Dev nD) : Vec F S2x256x512 .f32 :=
  if c.val < 2 then asm (k0_pay34 (tbv m c)) (k0_pay35 (X2 m c)) else asm (k0_pay36 (X2 m c)) (k0_pay37 (tbv m c))

/-! ## The semaphores -/

abbrev barS : Sem sig := (SemArray.scalar (sig.barrier 0 rfl) : Sems sig S_).sem

set_option backward.proofsInPublic true in
/-- The kernel's own scoped semaphores; -/
abbrev osem : Fin 14 → SemLoc sig := fun k => .dma ⟨k.val + 6, by have := k.isLt; show k.val + 6 < 20; omega⟩
set_option backward.proofsInPublic true in
/-- all of the protocol's: the barrier first. -/
abbrev csem : Fin 15 → SemLoc sig := fun k => if h : k.val = 0 then .reg barS else .dma ⟨k.val + 5, by have := k.isLt; show k.val + 5 < 20; omega⟩
abbrev kcell (ck : Dev nD × Fin 15) : GSem nD τ sig := ((ck.1 : Thread nD τ), csem ck.2)

set_option backward.proofsInPublic true in
/-- Which of the protocol's semaphores a semaphore is. -/
def kind : SemLoc sig → Option (Fin 15)
  | .reg _ => some 0
  | .dma q => if h : 6 ≤ q.val then some ⟨q.val - 5, by have : q.val < 20 := q.isLt; omega⟩ else none

theorem kind_csem (k : Fin 15) : kind (csem k) = some k := by revert k; decide

theorem csem_injective : Function.Injective csem := fun k k' h =>
  Option.some.inj ((kind_csem k).symm.trans ((congrArg kind h).trans (kind_csem k')))

theorem kcell_injective : Function.Injective (kcell : Dev nD × Fin 15 → GSem nD τ sig) := by
  rintro ⟨c, k⟩ ⟨c', k'⟩ h
  have h1 : c = c' := congrArg (fun g : GSem nD τ sig => g.1.1) h
  have h2 : k = k' := csem_injective (congrArg Prod.snd h)
  rw [h1, h2]

abbrev Nkv : ℕ := kbM.view.dmaCredit
abbrev Np : ℕ := sbM.view.dmaCredit
theorem Nkv_pos : 0 < Nkv := View.dmaCredit_pos _ (by decide)
theorem Np_pos : 0 < Np := View.dmaCredit_pos _ (by decide)

/-! ## The payloads -/

/-- The elements of a view on device `c`, at contents `f`, held in share `q`. -/
abbrev pts {s : Shape} {e : EltTy} (q : PosShare TreeShare) (c : Dev nD) (M : Memref sig .tc .vmem s e) (f : Buf (Elt F) (M.view.loc (c : Thread nD τ))) : sProp 𝕄 :=
  M.view.loc (c : Thread nD τ) ↦[M.view.set]{q} f
/-- The elements of a view on device `c`, at some contents; -/
def some_ {s : Shape} {e : EltTy} (c : Dev nD) (M : Memref sig .tc .vmem s e) : sProp 𝕄 := iprop(∃ f, pts (F := F) fullShare c M f)
/-- at contents the view reads as `X`. -/
def has {s : Shape} {e : EltTy} (c : Dev nD) (M : Memref sig .tc .vmem s e) (X : Vec F s e) : sProp 𝕄 :=
  iprop(∃ f, ⌜M.view.read (Elt F) f = X⌝ ∗ pts fullShare c M f)

instance some_storable {s : Shape} {e : EltTy} (c : Dev nD) (M : Memref sig .tc .vmem s e) : BI.Storable (upEmb : UEmb _ 𝕄) (some_ (F := F) c M) := by
  unfold some_; infer_instance
instance has_storable {s : Shape} {e : EltTy} (c : Dev nD) (M : Memref sig .tc .vmem s e) (X : Vec F s e) : BI.Storable (upEmb : UEmb _ 𝕄) (has c M X) := by
  unfold has; infer_instance

/-- What device `d`'s entry signal hands device `c`: the buffers of `d` that `c` will copy into. -/
def barPay (c d : Dev nD) : sProp 𝕄 :=
  iprop((if c = 0 then iprop(some_ (F := F) d kbM ∗ some_ (F := F) d vbM) else iprop(emp))
    ∗ (if c = p1 d then iprop(some_ (F := F) d r0M ∗ some_ (F := F) d r2M) else iprop(emp))
    ∗ (if c = p2 d then some_ (F := F) d r1M else iprop(emp)))

/-- The row of `part` that device `c` gives away. -/
abbrev awayM (c : Dev nD) : Memref sig .tc .vmem S1x256x512 .f32 := if c.val < 2 then pt1M else pt0M
abbrev keepM (c : Dev nD) : Memref sig .tc .vmem S1x256x512 .f32 := if c.val < 2 then pt0M else pt1M

/-- What is handed over at the protocol's semaphore `k` of device `c`, by payer `d`. -/
def pay (c : Dev nD) (k : Fin 15) (d : Dev nD) : sProp 𝕄 := match k with
  | 0 => barPay c d
  | 1 => pts fullShare c k4M (ks m c)
  | 2 => pts fullShare c k8M (ks m c)
  | 3 => pts fullShare c k12M (ks m c)
  | 4 => pts fullShare c v4M (vs m c)
  | 5 => pts fullShare c v8M (vs m c)
  | 6 => pts fullShare c v12M (vs m c)
  | 7 => pts fullShare c kbM (kcont m c)
  | 8 => pts fullShare c vbM (vcont m c)
  | 9 => some_ (F := F) c (awayM c)
  | 10 => pts fullShare.left c sbM (sbv m c)
  | 11 => pts fullShare.left c tbM (tbv m c)
  | 12 => has c r0M (X0 m c)
  | 13 => has c r1M (X1 m c)
  | 14 => has c r2M (X2 m c)

instance pay_storable (c : Dev nD) (k : Fin 15) (d : Dev nD) : BI.Storable (upEmb : UEmb _ 𝕄) (pay m c k d) := by
  fin_cases k <;> dsimp only [pay] <;> first | infer_instance | skip
  unfold barPay; (repeat' split) <;> infer_instance

/-! ## The schedule: one round -/

set_option backward.proofsInPublic true in
/-- Who pays semaphore `k` of device `c`: the barrier every other device, each copy semaphore one payer; the key and value
    copies leave device 0 only and arrive elsewhere only. -/
def dutyTab (c : Dev nD) (k : Fin 15) : Finset (Fin 4) :=
  if k.val = 0 then Finset.univ.erase c else if k.val ≤ 6 then (if c = 0 then {0} else ∅) else if k.val ≤ 8 then (if c = 0 then ∅ else {0}) else {0}
/-- How much a payer of semaphore `k` pays. -/
def amtTab (k : Fin 15) : ℕ := if k.val = 0 then 1 else if k.val ≤ 8 then Nkv else Np

theorem amtTab_pos (k : Fin 15) : 0 < amtTab k := by
  unfold amtTab; split
  · exact Nat.one_pos
  · split
    · exact Nkv_pos
    · exact Np_pos

def Rd : Rounds.Schedule (GSem nD τ sig) (Fin 4) 𝕄 where
  duties g r := if r = 0 ∧ g.1.2 = .tc then (match kind g.2 with | some k => dutyTab g.1.1 k | none => ∅) else ∅
  unitless _ := False
  amount g _ _ := match kind g.2 with | some k => amtTab k | none => 1
  payload g _ d := match kind g.2 with | some k => pay m g.1.1 k d | none => iprop(emp)
  amount_pos g _ _ _ := by
    split
    · exact amtTab_pos _
    · exact Nat.one_pos

instance Rd_payload_storable (g : GSem nD τ sig) (r : ℕ) (d : Fin 4) : BI.Storable (upEmb : UEmb _ 𝕄) ((Rd m).payload g r d) := by
  show BI.Storable upEmb (match kind g.2 with | some k => pay m g.1.1 k d | none => iprop(emp))
  split <;> infer_instance

theorem duties_at (c : Dev nD) (k : Fin 15) : (Rd m).duties (kcell (c, k)) 0 = dutyTab c k := by
  dsimp only [Rd]; rw [if_pos ⟨rfl, rfl⟩, kind_csem]
theorem duties_later (g : GSem nD τ sig) : ∀ r, 1 ≤ r → (Rd m).duties g r = ∅ := fun r hr => by
  dsimp only [Rd]; rw [if_neg fun h => by omega]
theorem amount_at (c : Dev nD) (k : Fin 15) (r : ℕ) (d : Fin 4) : (Rd m).amount (kcell (c, k)) r d = amtTab k := by
  dsimp only [Rd]; rw [kind_csem]
theorem payload_at (c : Dev nD) (k : Fin 15) (r : ℕ) (d : Fin 4) : (Rd m).payload (kcell (c, k)) r d = pay m c k d := by
  dsimp only [Rd]; rw [kind_csem]
theorem expect_at (c : Dev nD) (k : Fin 15) : (Rd m).expect (kcell (c, k)) 0 = (dutyTab c k).card * amtTab k := by
  unfold Schedule.expect Schedule.amountOf
  rw [duties_at, Finset.sum_congr rfl fun d _ => amount_at m c k 0 d, Finset.sum_const, smul_eq_mul]

/-! ## What each device owes at launch -/

abbrev due (c : Dev nD) (k : Fin 15) (n : ℕ) : CellTallies nD τ sig Unit := tallyAt (kcell (c, k)) () n

/-- What device `c` owes for the exchanges, the first one last; -/
def O1 (c : Dev nD) : CellTallies nD τ sig Unit := due (p1 c) 14 Np + due (p2 c) 13 Np
def Ox (c : Dev nD) : CellTallies nD τ sig Unit := O1 c + due (p1 c) 12 Np
/-- what device 0 owes for the key and value copies, besides; -/
def Okv : CellTallies nD τ sig Unit := Ox 0 + due 3 8 Nkv + due 3 7 Nkv + due 1 8 Nkv + due 1 7 Nkv + due 2 8 Nkv + due 2 7 Nkv
def Oc (c : Dev nD) : CellTallies nD τ sig Unit := if c = 0 then Okv else Ox c

set_option backward.proofsInPublic true in
/-- the device `k` places further on; -/
def nth (c : Dev nD) (k : ℕ) : Dev nD := ⟨(c.val + k) % 4, Nat.mod_lt _ (by decide)⟩
/-- and the three entry signals on top. -/
def O₀ (c : Dev nD) : CellTallies nD τ sig Unit := Oc c + due (nth c 3) 0 1 + due (nth c 2) 0 1 + due (nth c 1) 0 1

/-! ## The levels: a device waits below everything it still owes -/

def L (g : GSem nD τ sig) : Finset Unit := if g.1.2 = .tc then {()} else ∅
set_option backward.proofsInPublic true in
def lvTab (k : Fin 15) : ℕ := if k.val = 0 then 1 else if k.val ≤ 6 then 0 else if k.val ≤ 8 then 2 else if k.val ≤ 11 then 0 else k.val
def lv (g : GSem nD τ sig) (_ : Unit) : ℕ := match kind g.2 with | some k => lvTab k | none => 0

theorem L_of_ne (g : GSem nD τ sig) (h : g.1.2 ≠ .tc) : L g = ∅ := if_neg h
theorem lv_at (c : Dev nD) (k : Fin 15) : lv (kcell (c, k)) () = lvTab k := by dsimp only [lv]; rw [kind_csem]

/-- Everything owed in `O` lies above level `n`. -/
def Above (n : ℕ) (O : CellTallies nD τ sig Unit) : Prop := ∀ (g : GSem nD τ sig) (u : Unit), 0 < O g u → u ∈ L g ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hp =>
  (Pipeline.add_pos_cases hp).elim (h g u) (h' g u)
theorem above_due {n : ℕ} (c : Dev nD) (k : Fin 15) (j : ℕ) (h : n < lvTab k) : Above n (due c k j) := fun g u hp => by
  rw [tallyAt_apply] at hp
  by_cases hg : g = kcell (c, k) ∧ u = ()
  · rw [hg.1, lv_at]; exact ⟨by unfold L; rw [if_pos rfl]; exact Finset.mem_singleton_self _, h⟩
  · rw [if_neg hg] at hp; exact absurd hp (Nat.lt_irrefl 0)

/-- The evidence a wait presents. -/
theorem may_wait {n : ℕ} (c : Dev nD) (s : SemLoc sig) (O : CellTallies nD τ sig Unit) (hs : lv ((c : Thread nD τ), s) () ≤ n) (h : Above n O) :
    (levAts L lv : sProp 𝕄) ⊢ MayWait (c : Thread nD τ) s () O :=
  Pipeline.mayWait_of_levAts (by unfold L; rw [if_pos rfl]; exact Finset.mem_singleton_self _) fun g u hp => ⟨(h g u hp).1, hs.trans_lt (h g u hp).2⟩

theorem above_O1 (c : Dev nD) : Above 12 (O1 c) := above_add (above_due _ _ _ (by decide)) (above_due _ _ _ (by decide))
theorem above_Ox (c : Dev nD) : Above 2 (Ox c) :=
  above_add (above_add (above_due _ _ _ (by decide)) (above_due _ _ _ (by decide))) (above_due _ _ _ (by decide))
theorem above_mono {n n' : ℕ} (hn : n' ≤ n) {O : CellTallies nD τ sig Unit} (h : Above n O) : Above n' O := fun g u hp => ⟨(h g u hp).1, hn.trans_lt (h g u hp).2⟩
theorem above_Oc (c : Dev nD) : Above 1 (Oc c) := by
  unfold Oc; split
  · unfold Okv
    repeat' first | exact above_due _ _ _ (by decide) | exact above_mono (by decide) (above_Ox 0) | apply above_add
  · exact above_mono (by decide) (above_Ox c)
theorem above_O₀ (c : Dev nD) : Above 0 (O₀ c) :=
  above_add (above_add (above_add (above_mono (by decide) (above_Oc c)) (above_due _ _ _ (by decide))) (above_due _ _ _ (by decide))) (above_due _ _ _ (by decide))

end Cert.Attn

end
-- ==== Proof.Steps.lean ====
/-
The protocol's steps, each stated once: an entry signal, the entry wait, a copy to another device, and a wait for a copy.
Every wait is the last use of its semaphore on this device, so it gives the counter back at zero.
-/
module

public import proofs.«01_k».proof.Proof.Common

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

abbrev 𝒱₀ : Variants := Variants.none

/-! ## What every device knows: the protocol's invariants, that every round 0 is open, the levels -/

def records (K : Dev nD × Fin 15 → ℕ) : sProp 𝕄 :=
  iprop((bigSep Finset.univ fun ck : Dev nD × Fin 15 => cellInv ER (Rd m) (K ck) (kcell ck))
    ∗ bigSep Finset.univ fun ck : Dev nD × Fin 15 => reached ER (kcell ck) 0)

instance records_persistent (K : Dev nD × Fin 15 → ℕ) : BI.Persistent (records m K) := by unfold records; infer_instance

def Ctx (K : Dev nD × Fin 15 → ℕ) : sProp 𝕄 := iprop(records m K ∗ levAts L lv)

instance Ctx_persistent (K : Dev nD × Fin 15 → ℕ) : BI.Persistent (Ctx m K) := by unfold Ctx; infer_instance

variable (K : Dev nD × Fin 15 → ℕ)

theorem ctx_inv (ck : Dev nD × Fin 15) : Ctx m K ⊢ cellInv ER (Rd m) (K ck) (kcell ck) := by
  unfold Ctx records
  exact (sep_elim_left.trans sep_elim_left).trans (bigSep_elim (Finset.mem_univ ck))
theorem ctx_reached (ck : Dev nD × Fin 15) : Ctx m K ⊢ reached ER (kcell ck) 0 := by
  unfold Ctx records
  exact (sep_elim_left.trans sep_elim_right).trans (bigSep_elim (Finset.mem_univ ck))
theorem ctx_lev : Ctx m K ⊢ levAts L lv := by
  unfold Ctx
  iintro ⟨-, H⟩
  iexact H

/-- What device `c` owes, whatever it has waited for so far. -/
def owe (c : Dev nD) (O : CellTallies nD τ sig Unit) : sProp 𝕄 := iprop(∃ W, owes (c : Thread nD τ) O W)

abbrev pos (c : Dev nD) (k : Fin 15) : sProp 𝕄 := atPos ER (kcell (c, k)) 0 ∅ 0
abbrev tok (c : Dev nD) (k : Fin 15) (d : Fin 4) : sProp 𝕄 := dutyTok ER (kcell (c, k)) 0 d
abbrev zero (c : Dev nD) (k : Fin 15) : sProp 𝕄 := semVal (kcell (c, k)) 0

/-! ## The steps -/

theorem signal_step (c c' n : Dev nD) (hn : n = c') (hne : c ≠ c') (O : CellTallies nD τ sig Unit)
    {α : Type} {Q : α → sProp 𝕄} {k : PUnit → Prog (TpuEff nD τ sig (Elt F) Λ₀ .tc) α} :
    iprop(Ctx m K ∗ barPay c' c ∗ owe c (O + due c' 0 1) ∗ tok c' 0 c)
      ⊢ iprop((owe c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS ((1 : ℕ) : ℤ)) k) Q) := by
  subst hn
  have hc : kcell (n, 0) = ((n : Thread nD τ), SemLoc.reg barS) := rfl
  unfold owe
  iintro ⟨#HC, Hpay, ⟨%W, HO⟩, Ht⟩ Hk
  iapply (Rounds.wp_signal 𝒱₀ ER (Rd m) (c : Thread nD τ) none (dst := (n : Thread nD τ)) (sem := barS) (κ := K (n, 0)) (d := c) (r := 0) (k' := 1)
      (by show c ∈ (Rd m).duties (kcell (n, 0)) 0; rw [duties_at]; exact Finset.mem_erase.mpr ⟨hne, Finset.mem_univ _⟩)
      (amount_at m n 0 0 c) () O rfl (W := W)) $$ [HO Ht Hpay]
  · rw [← hc]
    isplitr; · iapply (ctx_inv m K (n, 0)); iexact HC
    isplitl [HO]; · iexact HO
    isplitl [Ht]; · iexact Ht
    isplitl [Hpay]
    · iapply (Entails.of_eq (show (barPay n c : sProp 𝕄) = (Rd m).payload (kcell (n, 0)) 0 c from (payload_at m n 0 0 c).symm)); iexact Hpay
    iapply (ctx_reached m K (n, 0)); iexact HC
  iintro HO
  iapply Hk
  iexists W; iexact HO

theorem barrier_step (c : Dev nD) (O : CellTallies nD τ sig Unit) (hO : Above 1 O)
    {α : Type} {Q : α → sProp 𝕄} {k : PUnit → Prog (TpuEff nD τ sig (Elt F) Λ₀ .tc) α} :
    iprop(Ctx m K ∗ cred (due c 0 3) ∗ owe c O ∗ pos (F := F) c 0)
      ⊢ iprop(((owe c O ∗ zero (F := F) c 0 ∗ bigSep (Finset.univ.erase c) (fun d => barPay c d))
              -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS ((3 : ℕ) : ℤ)) k) Q) := by
  unfold owe
  iintro ⟨#HC, Hcr, ⟨%W, HO⟩, Hat⟩ Hk
  iapply (Rounds.wp_wait_rest_token 𝒱₀ ER (Rd m) (c : Thread nD τ) none (κ := K (c, 0)) (sm := .reg barS) (k' := 3)
      (wpE_semWait_eq 𝒱₀ (c : Thread nD τ) none Set.univ) (Set.mem_univ _) () (O := O) (W := W) (R := 0) (m := 0) (T := ∅)
      (by rw [Nat.zero_add]; refine Eq.trans ?_ (expect_at m c 0).symm; revert c; decide)) $$ [Hcr HO Hat]
  · isplitr; · iapply (ctx_inv m K (c, 0)); iexact HC
    isplitl [Hcr]; · iexact Hcr
    isplitl [HO]; · iexact HO
    isplitr; · iapply (may_wait (n := 1) c (.reg barS) O (le_of_eq (lv_at c 0)) hO); iapply (ctx_lev m K); iexact HC
    iexact Hat
  iintro ⟨HO, Hat, -, Hpay⟩
  imod (Rounds.cell_close ER (Rd m) (Set.mem_univ (K (c, 0))) (fun h => h) (R := 0 + 1) (duties_later m (kcell (c, 0)))) $$ [Hat] with Hz
  · isplitr; · iapply (ctx_inv m K (c, 0)); iexact HC
    iexact Hat
  iapply Hk
  isplitl [HO]; · iexists _; iexact HO
  isplitl [Hz]; · iexact Hz
  iapply (Entails.of_eq (show bigSep ((Rd m).duties (kcell (c, 0)) 0 \ ∅) (fun d => (Rd m).payload (kcell (c, 0)) 0 d) = bigSep (Finset.univ.erase c) (fun d => barPay c d) from by
    rw [Finset.sdiff_empty, duties_at]; exact bigSep_congr fun d _ => payload_at m c 0 0 d))
  iexact Hpay

/-- A wait for a copy, on semaphore `k`. -/
theorem wait_step (c : Dev nD) (k : Fin 15) (hk : dutyTab c k = {0}) (s : DmaSem sig) (hs : csem k = .dma s) (n : ℕ) (hn : lvTab k ≤ n)
    {s₁ s₂ : Shape} {e₁ e₂ : EltTy} {src : Memref sig .tc .vmem s₁ e₁} {dst : Memref sig .tc .vmem s₂ e₂}
    {h₁ : src.view.WordExact} {h₂ : dst.view.WordExact}
    (hN : dst.view.dmaCredit = amtTab k) (O : CellTallies nD τ sig Unit) (hO : Above n O)
    {α : Type} {Q : α → sProp 𝕄} {k' : PUnit → Prog (TpuEff nD τ sig (Elt F) Λ₀ .tc) α} :
    iprop(Ctx m K ∗ cred (due c k (amtTab k)) ∗ owe c O ∗ pos (F := F) c k)
      ⊢ iprop(((owe c O ∗ zero (F := F) c k ∗ pay m c k 0)
              -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 s src dst h₁ h₂) k') Q) := by
  unfold owe
  iintro ⟨#HC, Hcr, ⟨%W, HO⟩, Hat⟩ Hk
  have hc : kcell (c, k) = ((c : Thread nD τ), SemLoc.dma s) := by unfold kcell; rw [hs]
  iapply (Rounds.wp_wait_rest_token 𝒱₀ ER (Rd m) (c : Thread nD τ) none (κ := K (c, k)) (sm := .dma s) (k' := dst.view.dmaCredit)
      (wpE_waitDma2_eq 𝒱₀ (c : Thread nD τ) none Set.univ) (Set.mem_univ _) () (O := O) (W := W) (R := 0) (m := 0) (T := ∅)
      (by rw [Nat.zero_add, ← hc, expect_at, hk, Finset.card_singleton, one_mul, hN])) $$ [Hcr HO Hat]
  · rw [← hc, hN]
    isplitr; · iapply (ctx_inv m K (c, k)); iexact HC
    isplitl [Hcr]; · iexact Hcr
    isplitl [HO]; · iexact HO
    isplitr
    · iapply (may_wait (n := n) c (.dma s) O (by rw [← hc, lv_at]; exact hn) hO)
      iapply (ctx_lev m K); iexact HC
    iexact Hat
  rw [← hc]
  iintro ⟨HO, Hat, -, Hpay⟩
  imod (Rounds.cell_close ER (Rd m) (Set.mem_univ (K (c, k))) (fun h => h) (R := 0 + 1) (duties_later m (kcell (c, k)))) $$ [Hat] with Hz
  · isplitr; · iapply (ctx_inv m K (c, k)); iexact HC
    iexact Hat
  iapply Hk
  isplitl [HO]; · iexists _; iexact HO
  isplitl [Hz]; · iexact Hz
  iapply (Entails.of_eq (show bigSep ((Rd m).duties (kcell (c, k)) 0 \ ∅) (fun d => (Rd m).payload (kcell (c, k)) 0 d) = pay m c k 0 from by
    rw [Finset.sdiff_empty, duties_at, hk, bigSep_singleton, payload_at]))
  iexact Hpay

/-- A copy from device `c` to device `c'`, leaving on semaphore `kS` of `c` and arriving on `kR` of `c'`. -/
theorem send_step (c c' n : Dev nD) (hn : n = c') (kS kR : Fin 15) (hkS : dutyTab c kS = {0}) (hkR : dutyTab c' kR = {0})
    (sS sR : DmaSem sig) (hsS : csem kS = .dma sS) (hsR : csem kR = .dma sR)
    {s : Shape} {e : EltTy} {src : Memref sig .tc .vmem s e} {dst : Memref sig .tc .vmem s e}
    {hsc : dst.view.ref.isScScratch = false} {h₁ : src.view.WordExact} {h₂ : dst.view.WordExact}
    {hsem : DmaTarget.Typed .vmem (.dma sR) (.remote (Dev.tc n : Thread nD τ) dst (.dma sS) hsc)}
    (N : ℕ) (hN : dst.view.dmaCredit = N) (hNS : amtTab kS = N) (hNR : amtTab kR = N) (q : PosShare TreeShare) {fs : Buf (Elt F) (src.view.loc (c : Thread nD τ))} {fd : Buf (Elt F) (dst.view.loc (c' : Thread nD τ))}
    (hpay₁ : (pts q c src fs : sProp 𝕄) ⊢ pay m c kS 0)
    (hpay₂ : (pts fullShare c' dst (dst.view.write (Elt F) fd (src.view.read (Elt F) fs) Finset.univ) : sProp 𝕄) ⊢ pay m c' kR 0)
    (O : CellTallies nD τ sig Unit)
    {α : Type} {Q : α → sProp 𝕄} {k' : PUnit → Prog (TpuEff nD τ sig (Elt F) Λ₀ .tc) α} :
    iprop(Ctx m K ∗ pts q c src fs ∗ pts fullShare c' dst fd ∗ owe c (O + due c' kR N) ∗ tok (F := F) c kS 0 ∗ tok (F := F) c' kR 0)
      ⊢ iprop(((cred (due c kS N) ∗ owe c O) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma src (.remote (Dev.tc n : Thread nD τ) dst (.dma sS) hsc) (.dma sR) h₁ h₂ hsem) k') Q) := by
  subst hn
  have hcS : kcell (c, kS) = ((c : Thread nD τ), SemLoc.dma sS) := by unfold kcell; rw [hsS]
  have hcR : kcell (n, kR) = ((n : Thread nD τ), SemLoc.dma sR) := by unfold kcell; rw [hsR]
  unfold owe
  iintro ⟨#HC, Hs, Hd, ⟨%W, HO⟩, HtS, HtR⟩ Hk
  iapply (Rounds.wp_send_pointsTo 𝒱₀ ER (Rd m) (c : Thread nD τ) none (κ₁ := K (c, kS)) (κ₂ := K (n, kR)) (r₁ := 0) (r₂ := 0) (d₁ := 0) (d₂ := 0) (fd := fd)
      (sS := .dma sS) (sem := .dma sR)
      (by rw [← hcS, duties_at, hkS]; exact Finset.mem_singleton_self _) (by rw [← hcR, duties_at, hkR]; exact Finset.mem_singleton_self _)
      () () N hN (by rw [← hcS, amount_at, hNS]) (by rw [← hcR, amount_at, hNR]) O (by rw [← hcR]) (W := W)
      (by rw [← hcS, payload_at]; exact hpay₁) (by rw [← hcR, payload_at]; exact hpay₂)) $$ [Hs Hd HO HtS HtR]
  · rw [← hcS, ← hcR]
    isplitr; · iapply (ctx_inv m K (c, kS)); iexact HC
    isplitr; · iapply (ctx_inv m K (n, kR)); iexact HC
    isplitl [Hs]; · iexact Hs
    isplitl [Hd]; · iexact Hd
    isplitl [HO]; · iexact HO
    isplitl [HtS]; · iexact HtS
    isplitr; · iapply (ctx_reached m K (c, kS)); iexact HC
    isplitl [HtR]; · iexact HtR
    iapply (ctx_reached m K (n, kR)); iexact HC
  rw [← hcS]
  iintro ⟨Hcr, HO⟩
  iapply Hk
  isplitl [Hcr]; · iexact Hcr
  iexists W; iexact HO

end Cert.Attn

end
-- ==== Proof.Moves.lean ====
/-
Loads and stores through one row of a buffer, what a landing leaves, and how a buffer divides into its rows.
-/
module

public import proofs.«01_k».proof.Proof.Steps

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## Loads and stores -/

section

variable {s : Shape} {e : EltTy} (c : Dev nD)

/-- A load through any rectangle of a buffer held whole. -/
theorem load_all {α : Type} {M : Memref sig .tc .vmem s e} {r : Rect s} {hl : M.view.LoadsAt r.toLoadRect} (hM : M.view.set = Finset.univ) {q : PosShare TreeShare}
    {f : Buf (Elt F) (M.view.loc (c : Thread nD τ))} {k : (r.shape.Idx → Elt F e) → Prog (TpuEff nD τ sig (Elt F) Λ₀ .tc) α} {Q : α → sProp 𝕄} :
    (pts q c M f)
      ⊢ iprop((pts q c M f -∗ wp frame (wpE (defs₀ (F := F)) 𝒱₀ (c : Thread nD τ) none) Set.univ (k (M.view.readAt (Elt F) r.toLoadRect f)) Q)
        -∗ wp frame (wpE (defs₀ (F := F)) 𝒱₀ (c : Thread nD τ) none) Set.univ (.op (.load M r.toLoadRect hl) k) Q) :=
  wp_load 𝒱₀ (c : Thread nD τ) none Set.univ (m := M) (by rw [hM]; exact Finset.subset_univ _)

/-- A load of one row, -/
theorem load_row {α : Type} {M : Memref sig .tc .vmem s e} {r : Rect s} {hu : ∀ a, r.stride a = 1} {hl : M.view.LoadsAt r.toLoadRect}
    {X : Vec F r.shape e} {k : (r.shape.Idx → Elt F e) → Prog (TpuEff nD τ sig (Elt F) Λ₀ .tc) α} {Q : α → sProp 𝕄} :
    (has c (M.slice r hu) X)
      ⊢ iprop((has c (M.slice r hu) X -∗ wp frame (wpE (defs₀ (F := F)) 𝒱₀ (c : Thread nD τ) none) Set.univ (k X) Q)
        -∗ wp frame (wpE (defs₀ (F := F)) 𝒱₀ (c : Thread nD τ) none) Set.univ (.op (.load M r.toLoadRect hl) k) Q) := by
  unfold has
  iintro ⟨%f, %hf, H⟩ Hk
  have hf' : M.view.readAt (Elt F) r.toLoadRect f = X := hf
  iapply (wp_load_rect 𝒱₀ (c : Thread nD τ) none Set.univ (m := M) (r := r) (hl := hl) (k := k) (f := f) (Finset.Subset.refl _)) $$ H
  iintro H
  ihave Hw := Hk $$ [H]
  · iexists f
    isplitr; · ipureintro; exact hf
    iexact H
  rw [show (M.access r).read (Elt F) f = X from hf]
  iexact Hw

theorem has_some {M : Memref sig .tc .vmem s e} {X : Vec F s e} : (has c M X : sProp 𝕄) ⊢ some_ (F := F) c M := by
  unfold has some_
  iintro ⟨%f, -, H⟩
  iexists f; iexact H
theorem some_has {M : Memref sig .tc .vmem s e} : (some_ (F := F) c M : sProp 𝕄) ⊢ iprop(∃ X, has c M X) := by
  unfold has some_
  iintro ⟨%f, H⟩
  iexists (M.view.read (Elt F) f)
  iexists f
  isplitr; · ipureintro; rfl
  iexact H
theorem pts_has {M : Memref sig .tc .vmem s e} (f : Buf (Elt F) (M.view.loc (c : Thread nD τ))) :
    (pts fullShare c M f : sProp 𝕄) ⊢ has c M (M.view.read (Elt F) f) := by
  unfold has
  iintro H
  iexists f
  isplitr; · ipureintro; rfl
  iexact H

/-- and of one whose contents are not used. -/
theorem load_dead {α : Type} {M : Memref sig .tc .vmem s e} {r : Rect s} {hu : ∀ a, r.stride a = 1} {hl : M.view.LoadsAt r.toLoadRect}
    {k : (r.shape.Idx → Elt F e) → Prog (TpuEff nD τ sig (Elt F) Λ₀ .tc) α} {Q : α → sProp 𝕄} {P : Prog (TpuEff nD τ sig (Elt F) Λ₀ .tc) α} (hk : ∀ x, k x = P) :
    (some_ (F := F) c (M.slice r hu))
      ⊢ iprop((some_ (F := F) c (M.slice r hu) -∗ wp frame (wpE (defs₀ (F := F)) 𝒱₀ (c : Thread nD τ) none) Set.univ P Q)
        -∗ wp frame (wpE (defs₀ (F := F)) 𝒱₀ (c : Thread nD τ) none) Set.univ (.op (.load M r.toLoadRect hl) k) Q) := by
  iintro H Hk
  ihave HX := (some_has (F := F) c) $$ H
  icases HX with ⟨%X, H⟩
  iapply (load_row c (hl := hl) (k := k)) $$ H
  iintro H
  rw [hk X]
  iapply Hk
  iapply (has_some c) $$ H

/-- A store of one row. -/
theorem store_row {α : Type} {M : Memref sig .tc .vmem s e} {r : Rect s} {hu : ∀ a, r.stride a = 1} {w : r.shape.Idx → Elt F e}
    {hx : (M.access r).Stores Finset.univ} {hm : (Finset.univ : Finset r.shape.Idx) = Finset.univ ∨ ∀ a, r.stride a = 1}
    {k : PUnit → Prog (TpuEff nD τ sig (Elt F) Λ₀ .tc) α} {Q : α → sProp 𝕄} :
    (some_ (F := F) c (M.slice r hu))
      ⊢ iprop((has c (M.slice r hu) w -∗ wp frame (wpE (defs₀ (F := F)) 𝒱₀ (c : Thread nD τ) none) Set.univ (k ⟨⟩) Q)
        -∗ wp frame (wpE (defs₀ (F := F)) 𝒱₀ (c : Thread nD τ) none) Set.univ (.op (.store M r w Finset.univ hx hm) k) Q) := by
  unfold has some_
  iintro ⟨%f, H⟩ Hk
  iapply (wp_store 𝒱₀ (c : Thread nD τ) none Set.univ (m := M) (r := r) (w := w) (Mk := Finset.univ) (hx := hx) (hm := hm) (k := k) (f := f) (S := (M.access r).set) (Finset.Subset.refl _)) $$ H
  iintro H
  iapply Hk
  iexists ((M.access r).write (Elt F) f w Finset.univ)
  isplitr
  · ipureintro; exact View.read_write_univ (v := M.access r) f w
  iexact H

end

/-! ## What a landing leaves -/

/-- A single-row copy of `w` into a row of a buffer leaves the row at `w` with the row coordinate added; -/
theorem read_landed {M : Memref sig .tc .vmem S1x256x512 .f32} (f : M.view.ty.Contents (Elt F)) (w : Vec F S256x512 .f32) :
    M.view.read (Elt F) ((sq M).view.write (Elt F) f w Finset.univ) = up w := by
  funext j
  obtain ⟨x, rfl⟩ := (Shape.reshapeEquiv (squeezes_S1x256x512_S256x512.numel_eq)).surjective j
  refine (View.read_write_reshape (v := M.view) (squeezes_S1x256x512_S256x512.numel_eq) f w x).trans ?_
  show w x = w (Shape.reshapeEquiv _ (Shape.reshapeEquiv _ x))
  congr 1
  exact ((Shape.reshapeEquiv (squeezes_S1x256x512_S256x512.numel_eq)).symm_apply_apply x).symm

/-- and what it copied is the source row with the row coordinate dropped. -/
theorem up_read {M : Memref sig .tc .vmem S1x256x512 .f32} (f : M.view.ty.Contents (Elt F)) : up ((sq M).view.read (Elt F) f) = M.view.read (Elt F) f := by
  funext j
  show M.view.read (Elt F) f (Shape.reshapeEquiv _ (Shape.reshapeEquiv _ j)) = _
  congr 1
  exact (Shape.reshapeEquiv (squeezes_S1x256x512_S256x512.numel_eq)).apply_symm_apply j

theorem pts_sq (q : PosShare TreeShare) (c : Dev nD) (M : Memref sig .tc .vmem S1x256x512 .f32) (f : Buf (Elt F) (M.view.loc (c : Thread nD τ))) :
    (pts q c (sq M) f : sProp 𝕄) = pts q c M f := by
  unfold pts
  rw [Memref.set_view_squeeze]

/-! ## Rows of a buffer -/

theorem rows_disj : Disjoint row0.set row1.set := by
  rw [Finset.disjoint_left]; intro i h0 h1
  have a := (Rect.mem_set_unit.mp h0 0).2
  have b := (Rect.mem_set_unit.mp h1 0).1
  exact absurd (b.trans_lt a) (by decide)
theorem rows_union : row0.set ∪ row1.set = Finset.univ := by
  refine Finset.eq_univ_of_forall fun i => ?_
  have b0 : (i 0 : ℕ) < 2 := (i 0).isLt
  have b1 : (i 1 : ℕ) < 256 := (i 1).isLt
  have b2 : (i 2 : ℕ) < 512 := (i 2).isLt
  rw [Finset.mem_union, Rect.mem_set_unit, Rect.mem_set_unit]
  by_cases h : (i 0 : ℕ) = 0
  · refine .inl fun a => ?_
    fin_cases a
    · show 0 ≤ (i 0 : ℕ) ∧ (i 0 : ℕ) < 0 + 1; omega
    · show 0 ≤ (i 1 : ℕ) ∧ (i 1 : ℕ) < 0 + 256; omega
    · show 0 ≤ (i 2 : ℕ) ∧ (i 2 : ℕ) < 0 + 512; omega
  · refine .inr fun a => ?_
    fin_cases a
    · show 1 ≤ (i 0 : ℕ) ∧ (i 0 : ℕ) < 1 + 1; omega
    · show 0 ≤ (i 1 : ℕ) ∧ (i 1 : ℕ) < 0 + 256; omega
    · show 0 ≤ (i 2 : ℕ) ∧ (i 2 : ℕ) < 0 + 512; omega

theorem slots_disj01 : Disjoint slotR0.set slotR1.set := by
  rw [Finset.disjoint_left]; intro i h0 h1
  have a := (Rect.mem_set_unit.mp h0 0).2
  have b := (Rect.mem_set_unit.mp h1 0).1
  exact absurd (b.trans_lt a) (by decide)
theorem slots_disj2 : Disjoint (slotR0.set ∪ slotR1.set) slotR2.set := by
  rw [Finset.disjoint_left]; intro i h0 h1
  have b := (Rect.mem_set_unit.mp h1 0).1
  rcases Finset.mem_union.mp h0 with h | h
  · exact absurd (b.trans_lt (Rect.mem_set_unit.mp h 0).2) (by decide)
  · exact absurd (b.trans_lt (Rect.mem_set_unit.mp h 0).2) (by decide)
theorem slots_union : (slotR0.set ∪ slotR1.set) ∪ slotR2.set = Finset.univ := by
  refine Finset.eq_univ_of_forall fun i => ?_
  have b0 : (i 0 : ℕ) < 3 := (i 0).isLt
  have b1 : (i 1 : ℕ) < 256 := (i 1).isLt
  have b2 : (i 2 : ℕ) < 512 := (i 2).isLt
  rw [Finset.mem_union, Finset.mem_union, Rect.mem_set_unit, Rect.mem_set_unit, Rect.mem_set_unit]
  have key : ∀ n : ℕ, (i 0 : ℕ) = n → ∀ a : Fin 3, (![n, 0, 0] : Fin 3 → ℕ) a ≤ (i a : ℕ) ∧ (i a : ℕ) < (![n, 0, 0] : Fin 3 → ℕ) a + S1x256x512.size a := by
    intro n hn a
    fin_cases a
    · show n ≤ (i 0 : ℕ) ∧ (i 0 : ℕ) < n + 1; omega
    · show 0 ≤ (i 1 : ℕ) ∧ (i 1 : ℕ) < 0 + 256; omega
    · show 0 ≤ (i 2 : ℕ) ∧ (i 2 : ℕ) < 0 + 512; omega
  have h3 : (i 0 : ℕ) = 0 ∨ (i 0 : ℕ) = 1 ∨ (i 0 : ℕ) = 2 := by omega
  rcases h3 with h | h | h
  · exact .inl (.inl (key 0 h))
  · exact .inl (.inr (key 1 h))
  · exact .inr (key 2 h)

abbrev o0M : Memref sig .tc .vmem S1x256x512 .f32 := oM.slice row0 (fun _ => rfl)
abbrev o1M : Memref sig .tc .vmem S1x256x512 .f32 := oM.slice row1 (fun _ => rfl)

section

variable {s : Shape} {e : EltTy} (c : Dev nD) (M : Memref sig .tc .vmem s e) {r r' : Rect s} (hu : ∀ a, r.stride a = 1) (hu' : ∀ a, r'.stride a = 1)

/-- A buffer as two parts, -/
theorem split2 (hd : Disjoint r.set r'.set) (hc : r.set ∪ r'.set = Finset.univ) :
    (some_ (F := F) c M : sProp 𝕄) ⊢ iprop(some_ (F := F) c (M.slice r hu) ∗ some_ (F := F) c (M.slice r' hu')) := by
  unfold some_
  iintro ⟨%f, H⟩
  have hs : M.view.set = (M.view.slice r).set ∪ (M.view.slice r').set := by
    rw [View.set_slice, View.set_slice, ← Finset.map_union, hc]; rfl
  ihave H := (Entails.of_eq (show (pts fullShare c M f : sProp 𝕄) = (M.view.loc (c : Thread nD τ) ↦[(M.view.slice r).set ∪ (M.view.slice r').set]{fullShare} f) from by
    unfold pts; rw [← hs])) $$ H
  ihave H := (pointsTo_union (View.disjoint_slice hd)).1 $$ H
  icases H with ⟨H0, H1⟩
  isplitl [H0]
  · iexists f; iexact H0
  · iexists f; iexact H1

/-- and two parts as a buffer. -/
theorem join2 (hd : Disjoint r.set r'.set) (hc : r.set ∪ r'.set = Finset.univ) (X : Vec F r.shape e) (Y : Vec F r'.shape e) :
    iprop(has c (M.slice r hu) X ∗ has c (M.slice r' hu') Y : sProp 𝕄)
      ⊢ iprop(∃ f, ⌜(M.slice r hu).view.read (Elt F) f = X ∧ (M.slice r' hu').view.read (Elt F) f = Y⌝ ∗ pts fullShare c M f) := by
  unfold has
  iintro ⟨⟨%f, %hf, Hf⟩, ⟨%g, %hg, Hg⟩⟩
  have hs : M.view.set = (M.view.slice r).set ∪ (M.view.slice r').set := by
    rw [View.set_slice, View.set_slice, ← Finset.map_union, hc]; rfl
  iexists ((M.view.slice r').set.piecewise g f)
  isplitr
  · ipureintro
    constructor
    · rw [← hf]
      have hv : Disjoint (M.view.slice r).set (M.view.slice r').set := View.disjoint_slice hd
      exact View.read_congr fun i hi => Finset.piecewise_eq_of_notMem _ _ _ (Finset.disjoint_left.mp hv hi)
    · rw [← hg]
      exact View.read_congr fun i hi => Finset.piecewise_eq_of_mem _ _ _ hi
  iapply (Entails.of_eq (show (M.view.loc (c : Thread nD τ) ↦[(M.view.slice r).set ∪ (M.view.slice r').set]{fullShare} ((M.view.slice r').set.piecewise g f)) = (pts fullShare c M ((M.view.slice r').set.piecewise g f) : sProp 𝕄) from by
    unfold pts; rw [← hs]))
  iapply (pointsTo_join (View.disjoint_slice hd))
  isplitl [Hf]
  · iexact Hf
  · iexact Hg

end

theorem join_some {s : Shape} {e : EltTy} (c : Dev nD) (M : Memref sig .tc .vmem s e) {r r' : Rect s} (hu : ∀ a, r.stride a = 1) (hu' : ∀ a, r'.stride a = 1)
    (hd : Disjoint r.set r'.set) (hc : r.set ∪ r'.set = Finset.univ) :
    iprop(some_ (F := F) c (M.slice r hu) ∗ some_ (F := F) c (M.slice r' hu') : sProp 𝕄) ⊢ some_ (F := F) c M := by
  iintro ⟨H0, H1⟩
  ihave H0 := (some_has (F := F) c) $$ H0
  ihave H1 := (some_has (F := F) c) $$ H1
  icases H0 with ⟨%X, H0⟩
  icases H1 with ⟨%Y, H1⟩
  ihave H := (join2 c M hu hu' hd hc X Y) $$ [H0 H1]
  · isplitl [H0]; · iexact H0
    iexact H1
  icases H with ⟨%f, -, H⟩
  unfold some_
  iexists f; iexact H

/-- The two rows of the output staging buffer, as its contents. -/
theorem join_out (c : Dev nD) (A B : Vec F S1x256x512 .f32) :
    iprop(has c o0M A ∗ has c o1M B : sProp 𝕄) ⊢ pts fullShare c oM (asm A B) := by
  iintro H
  ihave H := (join2 c oM (r := row0) (r' := row1) (fun _ => rfl) (fun _ => rfl) rows_disj rows_union A B) $$ H
  icases H with ⟨%f, %hf, H⟩
  have e : f = asm A B := by
    funext i
    have b0 : (i 0 : ℕ) < 2 := (i 0).isLt
    unfold asm
    by_cases h : (i 0).val = 0
    · rw [if_pos h, ← hf.1]
      show f i = f (row0.emb (rowIdx i))
      congr 1
      funext a
      refine Fin.ext ?_
      rw [Rect.emb_apply]
      fin_cases a
      · show (i 0 : ℕ) = 0 + 1 * 0; omega
      · show (i 1 : ℕ) = 0 + 1 * (i 1 : ℕ); omega
      · show (i 2 : ℕ) = 0 + 1 * (i 2 : ℕ); omega
    · rw [if_neg h, ← hf.2]
      show f i = f (row1.emb (rowIdx i))
      congr 1
      funext a
      refine Fin.ext ?_
      rw [Rect.emb_apply]
      fin_cases a
      · show (i 0 : ℕ) = 1 + 1 * 0; omega
      · show (i 1 : ℕ) = 0 + 1 * (i 1 : ℕ); omega
      · show (i 2 : ℕ) = 0 + 1 * (i 2 : ℕ); omega
  rw [← e]
  iexact H

/-- The landing buffer as its three slots, and back. -/
theorem split_slots (c : Dev nD) : (some_ (F := F) c rbM : sProp 𝕄) ⊢ iprop(some_ (F := F) c r0M ∗ some_ (F := F) c r1M ∗ some_ (F := F) c r2M) := by
  unfold some_
  iintro ⟨%f, H⟩
  ihave H := (Entails.of_eq (show (pts fullShare c rbM f : sProp 𝕄) = (rbM.view.loc (c : Thread nD τ) ↦[(r0M.view.set ∪ r1M.view.set) ∪ r2M.view.set]{fullShare} f) from by
    unfold pts; rw [View.set_whole, View.set_slice_whole, View.set_slice_whole, View.set_slice_whole, slots_union])) $$ H
  ihave H := (pointsTo_union (by rw [View.set_slice_whole, View.set_slice_whole, View.set_slice_whole]; exact slots_disj2)).1 $$ H
  icases H with ⟨H, H2⟩
  ihave H := (pointsTo_union (View.disjoint_slice slots_disj01)).1 $$ H
  icases H with ⟨H0, H1⟩
  isplitl [H0]; · iexists f; iexact H0
  isplitl [H1]; · iexists f; iexact H1
  iexists f; iexact H2
theorem join_slots (c : Dev nD) : iprop(some_ (F := F) c r0M ∗ some_ (F := F) c r1M ∗ some_ (F := F) c r2M : sProp 𝕄) ⊢ some_ (F := F) c rbM := by
  unfold some_
  iintro ⟨⟨%f, H0⟩, ⟨%g, H1⟩, ⟨%h, H2⟩⟩
  ihave H := (pointsTo_join (ℓ := rbM.view.loc (c : Thread nD τ)) (I := r0M.view.set) (J := r1M.view.set) (q := fullShare) (f := f) (g := g) (View.disjoint_slice slots_disj01)) $$ [H0 H1]
  · isplitl [H0]; · iexact H0
    iexact H1
  ihave H := (pointsTo_join (ℓ := rbM.view.loc (c : Thread nD τ)) (I := r0M.view.set ∪ r1M.view.set) (J := r2M.view.set) (q := fullShare) (f := r1M.view.set.piecewise g f) (g := h) (by rw [View.set_slice_whole, View.set_slice_whole, View.set_slice_whole]; exact slots_disj2)) $$ [H H2]
  · isplitl [H]; · iexact H
    iexact H2
  iexists _
  iapply (Entails.of_eq (show (rbM.view.loc (c : Thread nD τ) ↦[(r0M.view.set ∪ r1M.view.set) ∪ r2M.view.set]{fullShare} (r2M.view.set.piecewise h (r1M.view.set.piecewise g f))) = (pts fullShare c rbM (r2M.view.set.piecewise h (r1M.view.set.piecewise g f)) : sProp 𝕄) from by
    unfold pts; rw [View.set_whole, View.set_slice_whole, View.set_slice_whole, View.set_slice_whole, slots_union]))
  iexact H

end Cert.Attn

end
-- ==== Proof.Body.lean ====
/-
The kernel's body on one device, part by part: what each part takes and what it leaves.
-/
module

public import proofs.«01_k».proof.Proof.Moves

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Fin 15 → ℕ)

/-! ## What the kernel's words say -/

theorem tint1 : (1#32 : BitVec 32).toInt = ((1 : ℕ) : ℤ) := rfl
theorem tint3 : (3#32 : BitVec 32).toInt = ((3 : ℕ) : ℤ) := rfl

/-- The device's place, as the kernel computes it. -/
abbrev place (c : Dev nD) : BitVec 32 := Scalar.remsi (Scalar.divsi (Dev.word c) 1#32) 4#32
theorem dev1_eq (c : Dev nD) : (⟨k0_dev1 c, k0_dev1_lt c⟩ : Dev nD) = nth c 1 := by revert c; decide
theorem dev2_eq (c : Dev nD) : (⟨k0_dev2 c, k0_dev2_lt c⟩ : Dev nD) = nth c 2 := by revert c; decide
theorem dev3_eq (c : Dev nD) : (⟨k0_dev3 c, k0_dev3_lt c⟩ : Dev nD) = nth c 3 := by revert c; decide
theorem dev10_eq (c : Dev nD) (h) : (⟨k0_dev10 c, k0_dev10_lt c h⟩ : Dev nD) = p1 c := by revert c; decide
theorem dev11_eq (c : Dev nD) (h) : (⟨k0_dev11 c, k0_dev11_lt c h⟩ : Dev nD) = p1 c := by revert c; decide
theorem dev12_eq (c : Dev nD) : (⟨k0_dev12 c, k0_dev12_lt c⟩ : Dev nD) = p2 c := by revert c; decide
theorem dev13_eq (c : Dev nD) : (⟨k0_dev13 c, k0_dev13_lt c⟩ : Dev nD) = p1 c := by revert c; decide
theorem cond1_zero : k0_cond1 0 = 1#1 := by decide
theorem cond1_ne (c : Dev nD) (h : c ≠ 0) : ¬ k0_cond1 c = 1#1 := by revert c; decide
theorem cond3_pos (c : Dev nD) (h : c.val < 2) : k0_cond3 c = 1#1 := by revert c; decide
theorem cond3_neg (c : Dev nD) (h : ¬ c.val < 2) : ¬ k0_cond3 c = 1#1 := by revert c; decide
theorem cond4_pos (c : Dev nD) (h : ¬ c.val < 2) : k0_cond4 c = 1#1 := by revert c; decide
theorem cond4_neg (c : Dev nD) (h : c.val < 2) : ¬ k0_cond4 c = 1#1 := by revert c; decide
/-- Whether the device is not the one the keys start on, -/
abbrev awayE (c : Dev nD) : BitVec 32 := Scalar.extui (Scalar.cmpi .ne (place c) 0#32)
theorem awayE_zero : ¬ Scalar.cmpi .ne (awayE 0) 0#32 = 1#1 := by decide
theorem awayE_ne (c : Dev nD) (h : c ≠ 0) : Scalar.cmpi .ne (awayE c) 0#32 = 1#1 := by revert c; decide
theorem lastE_zero : Scalar.cmpi .ne (Scalar.extui (Scalar.cmpi .eq (place 0) 0#32) : BitVec 32) 0#32 = 1#1 := by decide
theorem lastE_ne (c : Dev nD) (h : c ≠ 0) : ¬ Scalar.cmpi .ne (Scalar.extui (Scalar.cmpi .eq (place c) 0#32) : BitVec 32) 0#32 = 1#1 := by revert c; decide
/-- and whether it keeps row 0: half its place, rounded down, is 0. -/
abbrev keepE (c : Dev nD) : BitVec 1 :=
  Scalar.cmpi .eq (Scalar.select
    (Scalar.andi
      (Scalar.cmpi .ne (Scalar.subi (Scalar.extui (Scalar.cmpi .sgt (place c) 0#32) : BitVec 32) (Scalar.extui (Scalar.cmpi .slt (place c) 0#32)))
        (Scalar.subi (Scalar.extui (Scalar.cmpi .sgt 2#32 0#32)) (Scalar.extui (Scalar.cmpi .slt 2#32 0#32))))
      (Scalar.cmpi .ne (Scalar.remsi (place c) 2#32) 0#32))
    (Scalar.subi (Scalar.divsi (place c) 2#32) 1#32) (Scalar.divsi (place c) 2#32)) 0#32
theorem keepE_pos (c : Dev nD) (h : c.val < 2) : keepE c = 1#1 := by revert c; decide
theorem keepE_neg (c : Dev nD) (h : ¬ c.val < 2) : keepE c = 0#1 := by revert c; decide

/-! ## The parts -/

/-- The two query blocks. -/
abbrev q0 (c : Dev nD) : FVec F S256x256 .f32 := k0_pay1 (xM.view.readAt (Elt F) row0.toLoadRect (xs m c)) (wqM.view.readAt (Elt F) wqR.toLoadRect (wqs m c))
abbrev q1 (c : Dev nD) : FVec F S256x256 .f32 := k0_pay2 (xM.view.readAt (Elt F) row1.toLoadRect (xs m c)) (wqM.view.readAt (Elt F) wqR.toLoadRect (wqs m c))

theorem part3 (c : Dev nD) {Q} :
    iprop(Ctx m K ∗ pts fullShare c xM (xs m c) ∗ pts fullShare c wqM (wqs m c) ∗ barPay (F := F) (nth c 1) c ∗ owe c (O₀ c) ∗ tok (F := F) (nth c 1) 0 c)
      ⊢ iprop(((pts fullShare c xM (xs m c) ∗ pts fullShare c wqM (wqs m c) ∗ owe (F := F) c (Oc c + due (nth c 3) 0 1 + due (nth c 2) 0 1))
          -∗ Q ⟨c, place c, q0 m c, q1 m c, SemArray.scalar (sig.barrier 0 rfl), Scalar.addi (place c) 2#32, Scalar.select (Scalar.cmpi .eq 4#32 0#32) 1#32 4#32⟩)
        -∗ wp frame (wpE (defs₀ (F := F)) 𝒱₀ (c : Thread nD τ) none) Set.univ (k0_part3 (F := F) xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) ptM (Memref.isWhole_whole _) rbM (Memref.isWhole_whole _) sbM (Memref.isWhole_whole _) tbM (Memref.isWhole_whole _) cc0_scratch6 cc0_scratch7 cc0_scratch8 cc0_scratch9 cc0_scratch10 cc0_scratch11) Q) := by
  rw [k0_part3_eq_skeleton]; unfold k0_part3_skel
  simp only [semSignalWord, semWaitWord, Prog.lift, Prog.bind_op, Prog.bind_ret, Prog.pure_eq_ret, wp_deviceId, tint1]
  unfold O₀
  iintro ⟨#HC, Hx, Hw, Hpay, HO, Ht⟩ Hk
  iapply (load_all c (M := xM) (r := row0) (View.set_whole _)) $$ Hx
  iintro Hx
  iapply (load_all c (M := wqM) (r := wqR) (View.set_whole _)) $$ Hw
  iintro Hw
  iapply (load_all c (M := xM) (r := row1) (View.set_whole _)) $$ Hx
  iintro Hx
  iapply (load_all c (M := wqM) (r := wqR) (View.set_whole _)) $$ Hw
  iintro Hw
  iapply (signal_step m K c (nth c 1) _ (dev1_eq c) (by revert c; decide)) $$ [Hpay HO Ht]
  · isplitr; · iexact HC
    isplitl [Hpay]; · iexact Hpay
    isplitl [HO]; · iexact HO
    iexact Ht
  iintro HO
  rw [wp_ret]
  imodintro
  iapply Hk
  isplitl [Hx]; · iexact Hx
  isplitl [Hw]; · iexact Hw
  iexact HO

/-! ## The kernel's keys and values dealt out -/

section

variable (c : Dev nD) (M : Memref sig .tc .vmem S2x256x16x64 .f32) (f : Buf (Elt F) (M.view.loc (c : Thread nD τ)))

abbrev mh0 := M.slice hd0 (fun _ => rfl)
abbrev mh4 := M.slice hd4 (fun _ => rfl)
abbrev mh8 := M.slice hd8 (fun _ => rfl)
abbrev mh12 := M.slice hd12 (fun _ => rfl)

/-- The heads that are not sent, at contents `f`. -/
def stay : sProp 𝕄 := M.view.loc (c : Thread nD τ) ↦[((M.view.set \ (mh8 M).view.set) \ (mh4 M).view.set) \ (mh12 M).view.set]{fullShare} f

theorem sub8 : (mh8 M).view.set ⊆ M.view.set := View.set_slice_subset _ _
theorem sub4 : (mh4 M).view.set ⊆ M.view.set \ (mh8 M).view.set :=
  Finset.subset_sdiff.mpr ⟨View.set_slice_subset _ _, View.disjoint_slice_of_sep M.view hd4 hd8 2 rfl rfl (.inl (by decide))⟩
theorem sub12 : (mh12 M).view.set ⊆ (M.view.set \ (mh8 M).view.set) \ (mh4 M).view.set :=
  Finset.subset_sdiff.mpr ⟨Finset.subset_sdiff.mpr ⟨View.set_slice_subset _ _, View.disjoint_slice_of_sep M.view hd12 hd8 2 rfl rfl (.inr (by decide))⟩,
    View.disjoint_slice_of_sep M.view hd12 hd4 2 rfl rfl (.inr (by decide))⟩
theorem sub0 : (mh0 M).view.set ⊆ ((M.view.set \ (mh8 M).view.set) \ (mh4 M).view.set) \ (mh12 M).view.set :=
  Finset.subset_sdiff.mpr ⟨Finset.subset_sdiff.mpr ⟨Finset.subset_sdiff.mpr ⟨View.set_slice_subset _ _, View.disjoint_slice_of_sep M.view hd0 hd8 2 rfl rfl (.inl (by decide))⟩,
    View.disjoint_slice_of_sep M.view hd0 hd4 2 rfl rfl (.inl (by decide))⟩, View.disjoint_slice_of_sep M.view hd0 hd12 2 rfl rfl (.inl (by decide))⟩

theorem deal : (pts fullShare c M f : sProp 𝕄)
    ⊣⊢ iprop(pts fullShare c (mh8 M) f ∗ pts fullShare c (mh4 M) f ∗ pts fullShare c (mh12 M) f ∗ stay c M f) :=
  (pointsTo_split_subset (sub8 M)).trans (sep_congr_right ((pointsTo_split_subset (sub4 M)).trans (sep_congr_right (pointsTo_split_subset (sub12 M)))))

theorem load_stay {α : Type} {hl : M.view.LoadsAt hd0.toLoadRect} {k : (hd0.shape.Idx → Elt F .f32) → Prog (TpuEff nD τ sig (Elt F) Λ₀ .tc) α} {Q : α → sProp 𝕄} :
    (stay c M f)
      ⊢ iprop((stay c M f -∗ wp frame (wpE (defs₀ (F := F)) 𝒱₀ (c : Thread nD τ) none) Set.univ (k (M.view.readAt (Elt F) hd0.toLoadRect f)) Q)
        -∗ wp frame (wpE (defs₀ (F := F)) 𝒱₀ (c : Thread nD τ) none) Set.univ (.op (.load M hd0.toLoadRect hl) k) Q) :=
  wp_load_rect 𝒱₀ (c : Thread nD τ) none Set.univ (m := M) (r := hd0) (sub0 M)

end

/-- A store over a whole buffer. -/
theorem store_all {α : Type} {s : Shape} {e : EltTy} (c : Dev nD) {M : Memref sig .tc .vmem s e} {r : Rect s} (hM : M.view.set = Finset.univ)
    {f : Buf (Elt F) (M.view.loc (c : Thread nD τ))} {w : r.shape.Idx → Elt F e} (w' : Buf (Elt F) (M.view.loc (c : Thread nD τ)))
    (hw : ∀ f, (M.access r).write (Elt F) f w Finset.univ = w') {hx : (M.access r).Stores Finset.univ}
    {hm} {k : PUnit → Prog (TpuEff nD τ sig (Elt F) Λ₀ .tc) α} {Q : α → sProp 𝕄} :
    (pts fullShare c M f)
      ⊢ iprop((pts fullShare c M w' -∗ wp frame (wpE (defs₀ (F := F)) 𝒱₀ (c : Thread nD τ) none) Set.univ (k ⟨⟩) Q)
        -∗ wp frame (wpE (defs₀ (F := F)) 𝒱₀ (c : Thread nD τ) none) Set.univ (.op (.store M r w Finset.univ hx hm) k) Q) := by
  iintro H Hk
  iapply (wp_store 𝒱₀ (c : Thread nD τ) none Set.univ (m := M) (r := r) (w := w) (Mk := Finset.univ) (hx := hx) (hm := hm) (k := k) (f := f)
    (S := M.view.set) (by rw [hM]; exact Finset.subset_univ _)) $$ H
  iintro H
  iapply Hk
  iapply (Entails.of_eq (show (pts fullShare c M ((M.access r).write (Elt F) f w Finset.univ) : sProp 𝕄) = pts fullShare c M w' from by rw [hw])) $$ H

abbrev kvR : Rect S2x256x4x64 := Rect.unit (s := S2x256x4x64) ![0, 0, 0, 0] S2x256x4x64.size inb_S2x256x4x64_S2x256x4x64_0_0_0_0
theorem zero4 : (![0, 0, 0, 0] : Fin 4 → ℕ) = fun _ => 0 := by funext a; fin_cases a <;> rfl
theorem zero2 : (![0, 0] : Fin 2 → ℕ) = fun _ => 0 := by funext a; fin_cases a <;> rfl

/-! ## The entry: what each device hands over and gets -/

theorem other_three (c : Dev nD) : Finset.univ.erase c = {p1 c, p2 c, p1 (p2 c)} := by revert c; decide
theorem in_three (c : Dev nD) (Φ : Dev nD → sProp 𝕄) : bigSep (Finset.univ.erase c) Φ = iprop(Φ (p1 c) ∗ Φ (p2 c) ∗ Φ (p1 (p2 c))) := by
  rw [other_three, bigSep_insert (by revert c; decide), bigSep_insert (by revert c; decide), bigSep_singleton]; rfl

theorem bar_split (c : Dev nD) : bigSep (Finset.univ.erase c) (fun d => barPay (F := F) c d)
    ⊢ iprop((some_ (F := F) (p1 c) r0M ∗ some_ (F := F) (p1 c) r2M) ∗ some_ (F := F) (p2 c) r1M) := by
  rw [in_three]
  unfold barPay
  rw [if_pos (p1_p1 c).symm, if_pos (p2_p2 c).symm]
  iintro ⟨⟨-, H, -⟩, ⟨-, -, H1⟩, -⟩
  isplitl [H]; · iexact H
  iexact H1
theorem bar_split0 : bigSep (Finset.univ.erase 0) (fun d => barPay (F := F) 0 d)
    ⊢ iprop((some_ (F := F) 3 kbM ∗ some_ (F := F) 3 vbM) ∗ (some_ (F := F) 1 kbM ∗ some_ (F := F) 1 vbM) ∗ (some_ (F := F) 2 kbM ∗ some_ (F := F) 2 vbM)
      ∗ (some_ (F := F) (p1 0) r0M ∗ some_ (F := F) (p1 0) r2M) ∗ some_ (F := F) (p2 0) r1M) := by
  rw [in_three]
  unfold barPay
  rw [if_pos rfl, if_pos rfl, if_pos rfl, if_pos (p1_p1 0).symm, if_pos (p2_p2 0).symm]
  iintro ⟨⟨H3, H, -⟩, ⟨Ha, -, H1⟩, ⟨Hb, -⟩⟩
  isplitl [H3]; · iexact H3
  isplitl [Ha]; · iexact Ha
  isplitl [Hb]; · iexact Hb
  isplitl [H]; · iexact H
  iexact H1

theorem bar_out (c : Dev nD) : iprop((if c = 0 then iprop(emp) else iprop(some_ (F := F) c kbM ∗ some_ (F := F) c vbM))
      ∗ some_ (F := F) c r0M ∗ some_ (F := F) c r1M ∗ some_ (F := F) c r2M : sProp 𝕄)
    ⊢ iprop(barPay (F := F) (nth c 1) c ∗ barPay (F := F) (nth c 2) c ∗ barPay (F := F) (nth c 3) c) := by
  unfold barPay
  have h4 : c = 0 ∨ c = 1 ∨ c = 2 ∨ c = 3 := by revert c; decide
  rcases h4 with rfl | rfl | rfl | rfl
  · rw [if_pos (by decide), if_neg (by decide), if_neg (by decide), if_pos (by decide), if_neg (by decide), if_neg (by decide), if_neg (by decide), if_neg (by decide), if_pos (by decide), if_neg (by decide)]
    iintro ⟨-, H0, H1, H2⟩
    isplitl [H1]
    · isplitr; · iempintro
      isplitr; · iempintro
      iexact H1
    isplitr
    · isplitr; · iempintro
      isplitr; · iempintro
      iempintro
    isplitr; · iempintro
    isplitl
    · isplitl [H0]; · iexact H0
      iexact H2
    iempintro
  · rw [if_neg (by decide), if_neg (by decide), if_pos (by decide), if_neg (by decide), if_neg (by decide), if_neg (by decide), if_neg (by decide), if_pos (by decide), if_neg (by decide), if_pos (by decide)]
    iintro ⟨Hk, H0, H1, H2⟩
    isplitl [H0 H2]
    · isplitr; · iempintro
      isplitl
      · isplitl [H0]; · iexact H0
        iexact H2
      iempintro
    isplitr
    · isplitr; · iempintro
      isplitr; · iempintro
      iempintro
    isplitl [Hk]; · iexact Hk
    isplitr; · iempintro
    iexact H1
  · rw [if_neg (by decide), if_neg (by decide), if_neg (by decide), if_pos (by decide), if_pos (by decide), if_neg (by decide), if_neg (by decide), if_neg (by decide), if_pos (by decide), if_neg (by decide)]
    iintro ⟨Hk, H0, H1, H2⟩
    isplitl [H1]
    · isplitr; · iempintro
      isplitr; · iempintro
      iexact H1
    isplitl [Hk]
    · isplitl [Hk]; · iexact Hk
      isplitr; · iempintro
      iempintro
    isplitr; · iempintro
    isplitl
    · isplitl [H0]; · iexact H0
      iexact H2
    iempintro
  · rw [if_neg (by decide), if_pos (by decide), if_pos (by decide), if_neg (by decide), if_neg (by decide), if_neg (by decide), if_neg (by decide), if_neg (by decide), if_neg (by decide), if_pos (by decide)]
    iintro ⟨Hk, H0, H1, H2⟩
    isplitl [Hk H0 H2]
    · isplitl [Hk]; · iexact Hk
      isplitl
      · isplitl [H0]; · iexact H0
        iexact H2
      iempintro
    isplitr
    · isplitr; · iempintro
      isplitr; · iempintro
      iempintro
    isplitr; · iempintro
    isplitr; · iempintro
    iexact H1

/-- What part 4 takes on every device, -/
def pre4 (c : Dev nD) : sProp 𝕄 :=
  iprop(barPay (F := F) (nth c 2) c ∗ barPay (F := F) (nth c 3) c ∗ owe (F := F) c (Oc c + due (nth c 3) 0 1 + due (nth c 2) 0 1)
    ∗ tok (F := F) (nth c 2) 0 c ∗ tok (F := F) (nth c 3) 0 c ∗ cred (due c 0 3) ∗ pos (F := F) c 0)

theorem part4_ne (c : Dev nD) (h : c ≠ 0) (a b) {Q} :
    iprop(Ctx m K ∗ pre4 (F := F) c)
      ⊢ iprop(((zero (F := F) c 0 ∗ (some_ (F := F) (p1 c) r0M ∗ some_ (F := F) (p1 c) r2M) ∗ some_ (F := F) (p2 c) r1M ∗ owe (F := F) c (Ox c)) -∗ Q (awayE c))
        -∗ wp frame (wpE (defs₀ (F := F)) 𝒱₀ (c : Thread nD τ) none) Set.univ (k0_part4 (F := F) xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) ptM (Memref.isWhole_whole _) rbM (Memref.isWhole_whole _) sbM (Memref.isWhole_whole _) tbM (Memref.isWhole_whole _) cc0_scratch6 cc0_scratch7 cc0_scratch8 cc0_scratch9 cc0_scratch10 cc0_scratch11 c (place c) (SemArray.scalar (sig.barrier 0 rfl)) a b) Q) := by
  rw [k0_part4_eq_skeleton]; unfold k0_part4_skel
  simp only [dif_neg (cond1_ne c h)]
  simp only [semSignalWord, semWaitWord, Prog.lift, Prog.bind_op, Prog.bind_ret, Prog.pure_eq_ret, tint1, tint3]
  unfold pre4
  iintro ⟨#HC, Hp4⟩ Hk
  icases Hp4 with ⟨Hb2, Hb3, HO, Ht2, Ht3, Hcr, Hpos⟩
  iapply (signal_step m K c (nth c 2) _ (dev2_eq c) (by clear h; revert c; decide)) $$ [Hb2 HO Ht2]
  · isplitr; · iexact HC
    isplitl [Hb2]; · iexact Hb2
    isplitl [HO]; · iexact HO
    iexact Ht2
  iintro HO
  iapply (signal_step m K c (nth c 3) _ (dev3_eq c) (by clear h; revert c; decide)) $$ [Hb3 HO Ht3]
  · isplitr; · iexact HC
    isplitl [Hb3]; · iexact Hb3
    isplitl [HO]; · iexact HO
    iexact Ht3
  iintro HO
  iapply (barrier_step m K c _ (above_Oc c)) $$ [Hcr HO Hpos]
  · isplitr; · iexact HC
    isplitl [Hcr]; · iexact Hcr
    isplitl [HO]; · iexact HO
    iexact Hpos
  iintro ⟨HO, Hz, Hin⟩
  ihave Hin := (bar_split c) $$ Hin
  icases Hin with ⟨Hr, Hr1⟩
  rw [wp_ret]
  imodintro
  iapply Hk
  isplitl [Hz]; · iexact Hz
  isplitl [Hr]; · iexact Hr
  isplitl [Hr1]; · iexact Hr1
  rw [show Ox c = Oc c from by unfold Oc; rw [if_neg h]]
  iexact HO

/-- The tokens of the copies device 0 makes to one device; -/
def kvTok (d : Dev nD) (i j : Fin 15) : sProp 𝕄 := iprop((tok (F := F) 0 i 0 ∗ tok (F := F) d 7 0) ∗ tok (F := F) 0 j 0 ∗ tok (F := F) d 8 0)
/-- all of them; what the copies' departures will give back. -/
def kvToks : sProp 𝕄 := iprop(kvTok (F := F) 2 2 5 ∗ kvTok (F := F) 1 1 4 ∗ kvTok (F := F) 3 3 6)
def kvDue : sProp 𝕄 := iprop((cred (due 0 2 Nkv) ∗ cred (due 0 5 Nkv)) ∗ (cred (due 0 1 Nkv) ∗ cred (due 0 4 Nkv)) ∗ (cred (due 0 3 Nkv) ∗ cred (due 0 6 Nkv)))

theorem some_ex {s : Shape} {e : EltTy} (c : Dev nD) (M : Memref sig .tc .vmem s e) : (some_ (F := F) c M : sProp 𝕄) ⊢ iprop(∃ f, pts (F := F) fullShare c M f) := by
  unfold some_; exact Entails.refl _

theorem kb_landed (d : Dev nD) (X) (h : kcont m d = X) (fd : Buf (Elt F) (kbM.view.loc (d : Thread nD τ))) :
    (pts fullShare d kbM (kbM.view.write (Elt F) fd X Finset.univ) : sProp 𝕄) ⊢ pay m d 7 0 := by
  rw [View.write_whole_univ, ← h]; exact Entails.refl _
theorem vb_landed (d : Dev nD) (X) (h : vcont m d = X) (fd : Buf (Elt F) (vbM.view.loc (d : Thread nD τ))) :
    (pts fullShare d vbM (vbM.view.write (Elt F) fd X Finset.univ) : sProp 𝕄) ⊢ pay m d 8 0 := by
  rw [View.write_whole_univ, ← h]; exact Entails.refl _

set_option maxHeartbeats 1000000 in
theorem part4_zero (a b) {Q} :
    iprop(Ctx m K ∗ pre4 (F := F) 0 ∗ pts fullShare 0 kM (ks m 0) ∗ pts fullShare 0 vM (vs m 0) ∗ some_ (F := F) 0 kbM ∗ some_ (F := F) 0 vbM ∗ kvToks (F := F))
      ⊢ iprop(((zero (F := F) 0 0 ∗ (some_ (F := F) (p1 0) r0M ∗ some_ (F := F) (p1 0) r2M) ∗ some_ (F := F) (p2 0) r1M ∗ owe (F := F) 0 (Ox 0)
            ∗ stay 0 kM (ks m 0) ∗ stay 0 vM (vs m 0) ∗ pts fullShare 0 kbM (kcont m 0) ∗ pts fullShare 0 vbM (vcont m 0) ∗ kvDue (F := F)) -∗ Q (awayE 0))
        -∗ wp frame (wpE (defs₀ (F := F)) 𝒱₀ ((0 : Dev nD) : Thread nD τ) none) Set.univ (k0_part4 (F := F) xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) ptM (Memref.isWhole_whole _) rbM (Memref.isWhole_whole _) sbM (Memref.isWhole_whole _) tbM (Memref.isWhole_whole _) cc0_scratch6 cc0_scratch7 cc0_scratch8 cc0_scratch9 cc0_scratch10 cc0_scratch11 0 (place 0) (SemArray.scalar (sig.barrier 0 rfl)) a b) Q) := by
  rw [k0_part4_eq_skeleton]; unfold k0_part4_skel
  simp only [dif_pos cond1_zero, k0_part1_eq_skeleton, k0_part1_skel]
  simp only [semSignalWord, semWaitWord, Prog.lift, Prog.bind_op, Prog.bind_ret, Prog.pure_eq_ret, tint1, tint3]
  unfold pre4 kvToks kvTok
  iintro ⟨#HC, Hp4, HK, HV, Hkb, Hvb, ⟨⟨T2, T27⟩, T5, T28⟩, ⟨⟨T1, T17⟩, T4, T18⟩, ⟨⟨T3, T37⟩, T6, T38⟩⟩ Hk
  icases Hp4 with ⟨Hb2, Hb3, HO, Ht2, Ht3, Hcr, Hpos⟩
  iapply (signal_step m K 0 (nth 0 2) _ (dev2_eq 0) (by decide)) $$ [Hb2 HO Ht2]
  · isplitr; · iexact HC
    isplitl [Hb2]; · iexact Hb2
    isplitl [HO]; · iexact HO
    iexact Ht2
  iintro HO
  iapply (signal_step m K 0 (nth 0 3) _ (dev3_eq 0) (by decide)) $$ [Hb3 HO Ht3]
  · isplitr; · iexact HC
    isplitl [Hb3]; · iexact Hb3
    isplitl [HO]; · iexact HO
    iexact Ht3
  iintro HO
  iapply (barrier_step m K 0 _ (above_Oc 0)) $$ [Hcr HO Hpos]
  · isplitr; · iexact HC
    isplitl [Hcr]; · iexact Hcr
    isplitl [HO]; · iexact HO
    iexact Hpos
  iintro ⟨HO, Hz, Hin⟩
  ihave Hin := (bar_split0 (F := F)) $$ Hin
  icases Hin with ⟨⟨B37, B38⟩, ⟨B17, B18⟩, ⟨B27, B28⟩, Hr, Hr1⟩
  ihave HO := (Entails.of_eq (show owe (F := F) 0 (Oc 0) = owe 0 Okv from by unfold Oc; rw [if_pos rfl])) $$ HO
  unfold Okv
  ihave HK := (deal 0 kM (ks m 0)).1 $$ HK
  ihave HV := (deal 0 vM (vs m 0)).1 $$ HV
  icases HK with ⟨K8, K4, K12, KR⟩
  icases HV with ⟨V8, V4, V12, VR⟩
  ihave B27 := (some_ex (F := F) 2 _) $$ B27
  icases B27 with ⟨%f0, B27⟩
  iapply (send_step m K 0 2 _ rfl 2 7 (by decide) (by decide) _ _ rfl rfl (src := mh8 kM) (dst := kbM) Nkv rfl rfl rfl fullShare
      (fs := ks m 0) (fd := f0) (Entails.refl _) (kb_landed m 2 _ rfl f0) (Ox 0 + due 3 8 Nkv + due 3 7 Nkv + due 1 8 Nkv + due 1 7 Nkv + due 2 8 Nkv)) $$ [K8 B27 HO T2 T27]
  · isplitr; · iexact HC
    isplitl [K8]; · iexact K8
    isplitl [B27]; · iexact B27
    isplitl [HO]; · iexact HO
    isplitl [T2]; · iexact T2
    iexact T27
  iintro ⟨C2, HO⟩
  ihave B28 := (some_ex (F := F) 2 _) $$ B28
  icases B28 with ⟨%f1, B28⟩
  iapply (send_step m K 0 2 _ rfl 5 8 (by decide) (by decide) _ _ rfl rfl (src := mh8 vM) (dst := vbM) Nkv rfl rfl rfl fullShare
      (fs := vs m 0) (fd := f1) (Entails.refl _) (vb_landed m 2 _ rfl f1) (Ox 0 + due 3 8 Nkv + due 3 7 Nkv + due 1 8 Nkv + due 1 7 Nkv)) $$ [V8 B28 HO T5 T28]
  · isplitr; · iexact HC
    isplitl [V8]; · iexact V8
    isplitl [B28]; · iexact B28
    isplitl [HO]; · iexact HO
    isplitl [T5]; · iexact T5
    iexact T28
  iintro ⟨C5, HO⟩
  ihave B17 := (some_ex (F := F) 1 _) $$ B17
  icases B17 with ⟨%f2, B17⟩
  iapply (send_step m K 0 1 _ rfl 1 7 (by decide) (by decide) _ _ rfl rfl (src := mh4 kM) (dst := kbM) Nkv rfl rfl rfl fullShare
      (fs := ks m 0) (fd := f2) (Entails.refl _) (kb_landed m 1 _ rfl f2) (Ox 0 + due 3 8 Nkv + due 3 7 Nkv + due 1 8 Nkv)) $$ [K4 B17 HO T1 T17]
  · isplitr; · iexact HC
    isplitl [K4]; · iexact K4
    isplitl [B17]; · iexact B17
    isplitl [HO]; · iexact HO
    isplitl [T1]; · iexact T1
    iexact T17
  iintro ⟨C1, HO⟩
  ihave B18 := (some_ex (F := F) 1 _) $$ B18
  icases B18 with ⟨%f3, B18⟩
  iapply (send_step m K 0 1 _ rfl 4 8 (by decide) (by decide) _ _ rfl rfl (src := mh4 vM) (dst := vbM) Nkv rfl rfl rfl fullShare
      (fs := vs m 0) (fd := f3) (Entails.refl _) (vb_landed m 1 _ rfl f3) (Ox 0 + due 3 8 Nkv + due 3 7 Nkv)) $$ [V4 B18 HO T4 T18]
  · isplitr; · iexact HC
    isplitl [V4]; · iexact V4
    isplitl [B18]; · iexact B18
    isplitl [HO]; · iexact HO
    isplitl [T4]; · iexact T4
    iexact T18
  iintro ⟨C4, HO⟩
  ihave B37 := (some_ex (F := F) 3 _) $$ B37
  icases B37 with ⟨%f4, B37⟩
  iapply (send_step m K 0 3 _ rfl 3 7 (by decide) (by decide) _ _ rfl rfl (src := mh12 kM) (dst := kbM) Nkv rfl rfl rfl fullShare
      (fs := ks m 0) (fd := f4) (Entails.refl _) (kb_landed m 3 _ rfl f4) (Ox 0 + due 3 8 Nkv)) $$ [K12 B37 HO T3 T37]
  · isplitr; · iexact HC
    isplitl [K12]; · iexact K12
    isplitl [B37]; · iexact B37
    isplitl [HO]; · iexact HO
    isplitl [T3]; · iexact T3
    iexact T37
  iintro ⟨C3, HO⟩
  ihave B38 := (some_ex (F := F) 3 _) $$ B38
  icases B38 with ⟨%f5, B38⟩
  iapply (send_step m K 0 3 _ rfl 6 8 (by decide) (by decide) _ _ rfl rfl (src := mh12 vM) (dst := vbM) Nkv rfl rfl rfl fullShare
      (fs := vs m 0) (fd := f5) (Entails.refl _) (vb_landed m 3 _ rfl f5) (Ox 0)) $$ [V12 B38 HO T6 T38]
  · isplitr; · iexact HC
    isplitl [V12]; · iexact V12
    isplitl [B38]; · iexact B38
    isplitl [HO]; · iexact HO
    isplitl [T6]; · iexact T6
    iexact T38
  iintro ⟨C6, HO⟩
  ihave Hkb := (some_ex (F := F) 0 _) $$ Hkb
  icases Hkb with ⟨%fk, Hkb⟩
  ihave Hvb := (some_ex (F := F) 0 _) $$ Hvb
  icases Hvb with ⟨%fv, Hvb⟩
  iapply (load_stay 0 kM (ks m 0)) $$ KR
  iintro KR
  iapply (load_all 0 (M := kbM) (r := kvR) (View.set_whole _)) $$ Hkb
  iintro Hkb
  iapply (store_all 0 (M := kbM) (r := kvR) (View.set_whole _) (kcont m 0) fun f => Memref.write_access_unit_zero_univ (Elt F) cc0_scratch0 zero4 _ f _) $$ Hkb
  iintro Hkb
  iapply (load_stay 0 vM (vs m 0)) $$ VR
  iintro VR
  iapply (load_all 0 (M := vbM) (r := kvR) (View.set_whole _)) $$ Hvb
  iintro Hvb
  iapply (store_all 0 (M := vbM) (r := kvR) (View.set_whole _) (vcont m 0) fun f => Memref.write_access_unit_zero_univ (Elt F) cc0_scratch1 zero4 _ f _) $$ Hvb
  iintro Hvb
  rw [wp_ret]
  imodintro
  iapply Hk
  isplitl [Hz]; · iexact Hz
  isplitl [Hr]; · iexact Hr
  isplitl [Hr1]; · iexact Hr1
  isplitl [HO]; · iexact HO
  isplitl [KR]; · iexact KR
  isplitl [VR]; · iexact VR
  isplitl [Hkb]; · iexact Hkb
  isplitl [Hvb]; · iexact Hvb
  unfold kvDue
  isplitl [C2 C5]
  · isplitl [C2]; · iexact C2
    iexact C5
  isplitl [C1 C4]
  · isplitl [C1]; · iexact C1
    iexact C4
  isplitl [C3]; · iexact C3
  iexact C6

end Cert.Attn

end
-- ==== Proof.Exchange.lean ====
/-
The rest of the body: the wait for the keys and values, the attention of the device's heads, the three exchanges, the last waits.
-/
module

public import proofs.«01_k».proof.Proof.Body

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Fin 15 → ℕ)

theorem duty_in (c : Dev nD) (k : Fin 15) (h : 9 ≤ k.val) : dutyTab c k = {0} := by
  unfold dutyTab; rw [if_neg (by omega), if_neg (by omega), if_neg (by omega)]
theorem duty_kv (c : Dev nD) (hc : c ≠ 0) (k : Fin 15) (h : k.val = 7 ∨ k.val = 8) : dutyTab c k = {0} := by
  unfold dutyTab; rw [if_neg (by omega), if_neg (by omega), if_pos (by omega), if_neg hc]

/-! ## The keys and values arrive -/

theorem part5_zero {Q} :
    iprop((emp : sProp 𝕄)) ⊢ iprop((emp -∗ Q ⟨k0_pay5, k0_pay6, k0_pay7, k0_pay8⟩) -∗ wp frame (wpE (defs₀ (F := F)) 𝒱₀ ((0 : Dev nD) : Thread nD τ) none) Set.univ (k0_part5 (F := F) xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) ptM (Memref.isWhole_whole _) rbM (Memref.isWhole_whole _) sbM (Memref.isWhole_whole _) tbM (Memref.isWhole_whole _) cc0_scratch6 cc0_scratch7 cc0_scratch8 cc0_scratch9 cc0_scratch10 cc0_scratch11 (awayE 0)) Q) := by
  rw [k0_part5_eq_skeleton]; unfold k0_part5_skel
  simp only [dif_neg awayE_zero]
  simp only [semSignalWord, semWaitWord, Prog.lift, Prog.bind_op, Prog.bind_ret, Prog.pure_eq_ret]
  iintro H Hk
  rw [wp_ret]
  imodintro
  iapply Hk
  iexact H

/-- What the wait takes, -/
def pre5 (c : Dev nD) : sProp 𝕄 := iprop((cred (due c 7 Nkv) ∗ pos (F := F) c 7) ∗ (cred (due c 8 Nkv) ∗ pos (F := F) c 8))

theorem part5_ne (c : Dev nD) (h : c ≠ 0) {Q} :
    iprop(Ctx m K ∗ pre5 (F := F) c ∗ owe (F := F) c (Ox c))
      ⊢ iprop(((pts fullShare c kbM (kcont m c) ∗ pts fullShare c vbM (vcont m c) ∗ zero (F := F) c 7 ∗ zero (F := F) c 8 ∗ owe (F := F) c (Ox c))
            -∗ Q ⟨k0_pay5, k0_pay6, k0_pay7, k0_pay8⟩)
        -∗ wp frame (wpE (defs₀ (F := F)) 𝒱₀ (c : Thread nD τ) none) Set.univ (k0_part5 (F := F) xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) ptM (Memref.isWhole_whole _) rbM (Memref.isWhole_whole _) sbM (Memref.isWhole_whole _) tbM (Memref.isWhole_whole _) cc0_scratch6 cc0_scratch7 cc0_scratch8 cc0_scratch9 cc0_scratch10 cc0_scratch11 (awayE c)) Q) := by
  rw [k0_part5_eq_skeleton]; unfold k0_part5_skel
  simp only [dif_pos (awayE_ne c h)]
  simp only [semSignalWord, semWaitWord, Prog.lift, Prog.bind_op, Prog.bind_ret, Prog.pure_eq_ret]
  unfold pre5
  iintro ⟨#HC, ⟨⟨C7, P7⟩, ⟨C8, P8⟩⟩, HO⟩ Hk
  iapply (wait_step m K c 7 (duty_kv c h 7 (.inl rfl)) _ rfl 2 (by decide) (dst := kbM) rfl _ (above_Ox c)) $$ [C7 HO P7]
  · isplitr; · iexact HC
    isplitl [C7]; · iexact C7
    isplitl [HO]; · iexact HO
    iexact P7
  iintro ⟨HO, Z7, Hkb⟩
  iapply (wait_step m K c 8 (duty_kv c h 8 (.inr rfl)) _ rfl 2 (by decide) (dst := vbM) rfl _ (above_Ox c)) $$ [C8 HO P8]
  · isplitr; · iexact HC
    isplitl [C8]; · iexact C8
    isplitl [HO]; · iexact HO
    iexact P8
  iintro ⟨HO, Z8, Hvb⟩
  unfold pay
  rw [wp_ret]
  imodintro
  iapply Hk
  isplitl [Hkb]; · iexact Hkb
  isplitl [Hvb]; · iexact Hvb
  isplitl [Z7]; · iexact Z7
  isplitl [Z8]; · iexact Z8
  iexact HO

/-! ## The attention -/

theorem part6 (c : Dev nD) (q : FVec F S256x256 .f32) (w1 w2 w3 w4) {Q} :
    iprop(pts fullShare c woM (wos m c) ∗ pts fullShare c kbM (kcont m c) ∗ pts fullShare c vbM (vcont m c))
      ⊢ iprop(((pts fullShare c woM (wos m c) ∗ pts fullShare c kbM (kcont m c) ∗ pts fullShare c vbM (vcont m c))
            -∗ Q ⟨k0_pay9 w1 w2 w3 w4, k0_pay10 (woM.view.readAt (Elt F) woR.toLoadRect (wos m c)), k0_pay11 (kbM.view.readAt (Elt F) kv0.toLoadRect (kcont m c)),
                k0_pay12 (vbM.view.readAt (Elt F) kv0.toLoadRect (vcont m c)),
                k0_pay13 q w1 w2 w3 w4 (woM.view.readAt (Elt F) woR.toLoadRect (wos m c)) (kbM.view.readAt (Elt F) kv0.toLoadRect (kcont m c)) (vbM.view.readAt (Elt F) kv0.toLoadRect (vcont m c)),
                k0_pay14 q, k0_pay15 (kbM.view.readAt (Elt F) kv0.toLoadRect (kcont m c))⟩)
        -∗ wp frame (wpE (defs₀ (F := F)) 𝒱₀ (c : Thread nD τ) none) Set.univ (k0_part6 (F := F) xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) ptM (Memref.isWhole_whole _) rbM (Memref.isWhole_whole _) sbM (Memref.isWhole_whole _) tbM (Memref.isWhole_whole _) cc0_scratch6 cc0_scratch7 cc0_scratch8 cc0_scratch9 cc0_scratch10 cc0_scratch11 q w1 w2 w3 w4) Q) := by
  rw [k0_part6_eq_skeleton]; unfold k0_part6_skel
  simp only [semSignalWord, semWaitWord, Prog.lift, Prog.bind_op, Prog.bind_ret, Prog.pure_eq_ret]
  iintro ⟨Hwo, Hkb, Hvb⟩ Hk
  iapply (load_all c (M := woM) (r := woR) (View.set_whole _)) $$ Hwo
  iintro Hwo
  iapply (load_all c (M := kbM) (r := kv0) (View.set_whole _)) $$ Hkb
  iintro Hkb
  iapply (load_all c (M := vbM) (r := kv0) (View.set_whole _)) $$ Hvb
  iintro Hvb
  rw [wp_ret]
  imodintro
  iapply Hk
  isplitl [Hwo]; · iexact Hwo
  isplitl [Hkb]; · iexact Hkb
  iexact Hvb

theorem part8 (c : Dev nD) (q : FVec F S256x256 .f32) (a1 a2 a3 a4 a5 a6) {Q} :
    iprop(some_ (F := F) c pt0M ∗ pts fullShare c kbM (kcont m c) ∗ pts fullShare c vbM (vcont m c))
      ⊢ iprop(((has c pt0M (k0_pay19 a1 a2 a3 a4 a5 a6) ∗ pts fullShare c kbM (kcont m c) ∗ pts fullShare c vbM (vcont m c))
            -∗ Q ⟨k0_pay20 (kbM.view.readAt (Elt F) kv1.toLoadRect (kcont m c)), k0_pay21 (vbM.view.readAt (Elt F) kv1.toLoadRect (vcont m c)), k0_pay22 (F := F),
                k0_pay23 (vbM.view.readAt (Elt F) kv1.toLoadRect (vcont m c)), k0_pay24 q (kbM.view.readAt (Elt F) kv1.toLoadRect (kcont m c)), k0_pay25 (F := F)⟩)
        -∗ wp frame (wpE (defs₀ (F := F)) 𝒱₀ (c : Thread nD τ) none) Set.univ (k0_part8 (F := F) xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) ptM (Memref.isWhole_whole _) rbM (Memref.isWhole_whole _) sbM (Memref.isWhole_whole _) tbM (Memref.isWhole_whole _) cc0_scratch6 cc0_scratch7 cc0_scratch8 cc0_scratch9 cc0_scratch10 cc0_scratch11 q a1 a2 a3 a4 a5 a6) Q) := by
  rw [k0_part8_eq_skeleton]; unfold k0_part8_skel
  simp only [semSignalWord, semWaitWord, Prog.lift, Prog.bind_op, Prog.bind_ret, Prog.pure_eq_ret]
  iintro ⟨Hp, Hkb, Hvb⟩ Hk
  iapply (load_dead c (M := ptM) (r := row0) (hu := fun _ => rfl) (fun _ => rfl)) $$ Hp
  iintro Hp
  iapply (store_row c (M := ptM) (r := row0) (hu := fun _ => rfl)) $$ Hp
  iintro Hp
  iapply (load_all c (M := kbM) (r := kv1) (View.set_whole _)) $$ Hkb
  iintro Hkb
  iapply (load_all c (M := vbM) (r := kv1) (View.set_whole _)) $$ Hvb
  iintro Hvb
  rw [wp_ret]
  imodintro
  iapply Hk
  isplitl [Hp]; · iexact Hp
  isplitl [Hkb]; · iexact Hkb
  iexact Hvb

theorem part10 (c : Dev nD) (a1 a2 a3 a4 a5 a6 a7 a8 a9) {Q} :
    (some_ (F := F) c pt1M)
      ⊢ iprop((has c pt1M (k0_pay30 a1 a2 a3 a4 a5 a6 a7 a8 a9)
            -∗ Q ⟨2#32, Scalar.divsi (place c) 2#32, Scalar.extui (Scalar.cmpi .sgt (place c) 0#32)⟩)
        -∗ wp frame (wpE (defs₀ (F := F)) 𝒱₀ (c : Thread nD τ) none) Set.univ (k0_part10 (F := F) xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) ptM (Memref.isWhole_whole _) rbM (Memref.isWhole_whole _) sbM (Memref.isWhole_whole _) tbM (Memref.isWhole_whole _) cc0_scratch6 cc0_scratch7 cc0_scratch8 cc0_scratch9 cc0_scratch10 cc0_scratch11 (place c) a1 a2 a3 a4 a5 a6 a7 a8 a9) Q) := by
  rw [k0_part10_eq_skeleton]; unfold k0_part10_skel
  simp only [semSignalWord, semWaitWord, Prog.lift, Prog.bind_op, Prog.bind_ret, Prog.pure_eq_ret]
  iintro Hp Hk
  iapply (load_dead c (M := ptM) (r := row1) (hu := fun _ => rfl) (fun _ => rfl)) $$ Hp
  iintro Hp
  iapply (store_row c (M := ptM) (r := row1) (hu := fun _ => rfl)) $$ Hp
  iintro Hp
  rw [wp_ret]
  imodintro
  iapply Hk
  iexact Hp

/-! ## The exchanges -/

/-- Device `c`'s contributions: the row it gives away and the row it keeps. -/
def givP (c : Dev nD) : Vec F S1x256x512 .f32 := if c.val < 2 then P1 m c else P0 m c
def keepP (c : Dev nD) : Vec F S1x256x512 .f32 := if c.val < 2 then P0 m c else P1 m c

theorem p1_lt (c : Dev nD) (h : c.val < 2) : ¬ (p1 c).val < 2 := by revert c; decide
theorem p1_nlt (c : Dev nD) (h : ¬ c.val < 2) : (p1 c).val < 2 := by revert c; decide

theorem X0_p1 (c : Dev nD) : X0 m (p1 c) = givP m c := by
  unfold X0 givP
  by_cases h : c.val < 2
  · rw [if_neg (p1_lt c h), if_pos h, p1_p1]
  · rw [if_pos (p1_nlt c h), if_neg h, p1_p1]

/-- What lands in a slot reads as the source with the row coordinate added. -/
theorem slot_landed (d : Dev nD) (M : Memref sig .tc .vmem S1x256x512 .f32) (f : Buf (Elt F) (M.view.loc (d : Thread nD τ))) (w : Vec F S256x512 .f32) (X : Vec F S1x256x512 .f32) (h : up w = X) :
    (pts fullShare d (sq M) ((sq M).view.write (Elt F) f w Finset.univ) : sProp 𝕄) ⊢ has d M X := by
  rw [pts_sq]
  refine (pts_has d _).trans ?_
  rw [read_landed, h]

theorem pay_depart (c : Dev nD) (M : Memref sig .tc .vmem S1x256x512 .f32) (h : awayM c = M) (f : Buf (Elt F) (M.view.loc (c : Thread nD τ))) :
    (pts fullShare c (sq M) f : sProp 𝕄) ⊢ pay m c 9 0 := by
  subst h
  rw [pts_sq]
  exact (pts_has c f).trans (has_some c)

/-- What the first exchange takes. -/
def pre11 (c : Dev nD) : sProp 𝕄 :=
  iprop(has c (awayM c) (givP m c) ∗ some_ (F := F) (p1 c) r0M ∗ tok (F := F) c 9 0 ∗ tok (F := F) (p1 c) 12 0)

set_option maxHeartbeats 400000 in
theorem part11 (c : Dev nD) {Q : _ → sProp 𝕄} :
    iprop(Ctx m K ∗ pre11 m c ∗ owe (F := F) c (Ox c))
      ⊢ iprop(((cred (due c 9 Np) ∗ owe (F := F) c (O1 c)) -∗ Q ⟨keepE c, Scalar.subi 3#32 (place c), Scalar.xori (place c) 1#32⟩)
        -∗ wp frame (wpE (defs₀ (F := F)) 𝒱₀ (c : Thread nD τ) none) Set.univ (k0_part11 (F := F) xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) ptM (Memref.isWhole_whole _) rbM (Memref.isWhole_whole _) sbM (Memref.isWhole_whole _) tbM (Memref.isWhole_whole _) cc0_scratch6 cc0_scratch7 cc0_scratch8 cc0_scratch9 cc0_scratch10 cc0_scratch11 c (place c) 2#32 (Scalar.divsi (place c) 2#32) (Scalar.extui (Scalar.cmpi .sgt (place c) 0#32))) Q) := by
  rw [k0_part11_eq_skeleton]; unfold k0_part11_skel pre11
  iintro ⟨#HC, ⟨Ha, Hr, T9, T12⟩, HO⟩ Hk
  ihave Hr := (some_ex (F := F) (p1 c) _) $$ Hr
  icases Hr with ⟨%fr, Hr⟩
  by_cases h : c.val < 2
  · simp only [dif_pos (cond3_pos c h), dif_neg (cond4_neg c h)]
    simp only [semSignalWord, semWaitWord, Prog.lift, Prog.bind_op, Prog.bind_ret, Prog.pure_eq_ret]
    have e : awayM c = pt1M := if_pos h
    ihave Ha := (Entails.of_eq (show has c (awayM c) (givP m c) = has c pt1M (givP m c) from by rw [e])) $$ Ha
    unfold has
    icases Ha with ⟨%fa, %hfa, Ha⟩
    ihave Ha := (Entails.of_eq (pts_sq fullShare c pt1M fa).symm) $$ Ha
    ihave Hr := (Entails.of_eq (pts_sq fullShare (p1 c) r0M fr).symm) $$ Hr
    iapply (send_step m K c (p1 c) _ (dev10_eq c (cond3_pos c h)) 9 12 (duty_in _ _ (by decide)) (duty_in _ _ (by decide)) _ _ rfl rfl (src := sq pt1M) (dst := sq r0M) Np rfl rfl rfl fullShare
      (fs := fa) (fd := fr) (pay_depart m c pt1M e fa)
      (slot_landed (p1 c) r0M fr _ _ (by rw [up_read, X0_p1]; exact hfa)) (O1 c)) $$ [Ha Hr HO T9 T12]
    · isplitr; · iexact HC
      isplitl [Ha]; · iexact Ha
      isplitl [Hr]; · iexact Hr
      isplitl [HO]; · iexact HO
      isplitl [T9]; · iexact T9
      iexact T12
    iintro HR
    rw [wp_ret]
    imodintro
    iapply Hk
    iexact HR
  · simp only [dif_neg (cond3_neg c h), dif_pos (cond4_pos c h)]
    simp only [semSignalWord, semWaitWord, Prog.lift, Prog.bind_op, Prog.bind_ret, Prog.pure_eq_ret]
    have e : awayM c = pt0M := if_neg h
    ihave Ha := (Entails.of_eq (show has c (awayM c) (givP m c) = has c pt0M (givP m c) from by rw [e])) $$ Ha
    unfold has
    icases Ha with ⟨%fa, %hfa, Ha⟩
    ihave Ha := (Entails.of_eq (pts_sq fullShare c pt0M fa).symm) $$ Ha
    ihave Hr := (Entails.of_eq (pts_sq fullShare (p1 c) r0M fr).symm) $$ Hr
    iapply (send_step m K c (p1 c) _ (dev11_eq c (cond4_pos c h)) 9 12 (duty_in _ _ (by decide)) (duty_in _ _ (by decide)) _ _ rfl rfl (src := sq pt0M) (dst := sq r0M) Np rfl rfl rfl fullShare
      (fs := fa) (fd := fr) (pay_depart m c pt0M e fa)
      (slot_landed (p1 c) r0M fr _ _ (by rw [up_read, X0_p1]; exact hfa)) (O1 c)) $$ [Ha Hr HO T9 T12]
    · isplitr; · iexact HC
      isplitl [Ha]; · iexact Ha
      isplitl [Hr]; · iexact Hr
      isplitl [HO]; · iexact HO
      isplitl [T9]; · iexact T9
      iexact T12
    iintro HR
    rw [wp_ret]
    imodintro
    iapply Hk
    iexact HR

/-- What the second exchange takes, and what it leaves. -/
def pre12 (c : Dev nD) : sProp 𝕄 :=
  iprop(has c (keepM c) (keepP m c) ∗ (cred (due c 12 Np) ∗ pos (F := F) c 12) ∗ some_ (F := F) c sbM ∗ some_ (F := F) (p2 c) r1M ∗ tok (F := F) c 10 0 ∗ tok (F := F) (p2 c) 13 0
    ∗ (cred (due c 13 Np) ∗ pos (F := F) c 13) ∗ some_ (F := F) c tbM)
def post12 (c : Dev nD) : sProp 𝕄 :=
  iprop(has c (keepM c) (keepP m c) ∗ has c r0M (X0 m c) ∗ zero (F := F) c 12 ∗ pts fullShare.right c sbM (sbv m c) ∗ cred (due c 10 Np) ∗ zero (F := F) c 13
    ∗ has c r1M (X1 m c) ∗ pts fullShare c tbM (tbv m c))

theorem sbv_keep (c : Dev nD) (h : c.val < 2) : k0_pay31 (keepP m c) (X0 m c) = sbv m c := by
  unfold keepP sbv; rw [if_pos h, if_pos h]
theorem sbv_nkeep (c : Dev nD) (h : ¬ c.val < 2) : k0_pay32 (keepP m c) (X0 m c) = sbv m c := by
  unfold keepP sbv; rw [if_neg h, if_neg h]
theorem X1_p2 (c : Dev nD) : X1 m (p2 c) = up (sbv m c) := by unfold X1; rw [p2_p2]
theorem X2_p1 (c : Dev nD) : X2 m (p1 c) = up (tbv m c) := by unfold X2; rw [p1_p1]
theorem half {s : Shape} {e : EltTy} (c : Dev nD) (M : Memref sig .tc .vmem s e) (f : Buf (Elt F) (M.view.loc (c : Thread nD τ))) :
    (pts fullShare c M f : sProp 𝕄) ⊣⊢ iprop(pts fullShare.left c M f ∗ pts fullShare.right c M f) := pointsTo_share (PosShare.mem_left_op_right fullShare)

set_option maxHeartbeats 400000 in
theorem part12 (c : Dev nD) (a) {Q : _ → sProp 𝕄} :
    iprop(Ctx m K ∗ pre12 m c ∗ owe (F := F) c (O1 c))
      ⊢ iprop(((post12 m c ∗ owe (F := F) c (due (p1 c) 14 Np)) -∗ Q ⟨⟩)
        -∗ wp frame (wpE (defs₀ (F := F)) 𝒱₀ (c : Thread nD τ) none) Set.univ (k0_part12 (F := F) xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) ptM (Memref.isWhole_whole _) rbM (Memref.isWhole_whole _) sbM (Memref.isWhole_whole _) tbM (Memref.isWhole_whole _) cc0_scratch6 cc0_scratch7 cc0_scratch8 cc0_scratch9 cc0_scratch10 cc0_scratch11 c (keepE c) a) Q) := by
  rw [k0_part12_eq_skeleton]; unfold k0_part12_skel pre12 O1
  iintro ⟨#HC, ⟨Hkeep, ⟨C12, P12⟩, Hs, Hr1, T10, T13, ⟨C13, P13⟩, Ht⟩, HO⟩ Hk
  ihave Hs := (some_ex (F := F) c _) $$ Hs
  icases Hs with ⟨%fs, Hs⟩
  ihave Ht := (some_ex (F := F) c _) $$ Ht
  icases Ht with ⟨%ft, Ht⟩
  ihave Hr1 := (some_ex (F := F) (p2 c) _) $$ Hr1
  icases Hr1 with ⟨%fr, Hr1⟩
  by_cases h : c.val < 2
  · rw [keepE_pos c h]
    simp only [dif_pos (show Scalar.cmpi .ne (Scalar.extui (1#1 : BitVec 1) : BitVec 32) 0#32 = 1#1 from by decide), dif_neg (show ¬ Scalar.cmpi .ne (Scalar.extui (Scalar.xori (1#1 : BitVec 1) 1#1) : BitVec 32) 0#32 = 1#1 from by decide)]
    simp only [semSignalWord, semWaitWord, Prog.lift, Prog.bind_op, Prog.bind_ret, Prog.pure_eq_ret]
    have e : keepM c = pt0M := if_pos h
    ihave Hkeep := (Entails.of_eq (show has c (keepM c) (keepP m c) = has c pt0M (keepP m c) from by rw [e])) $$ Hkeep
    iapply (wait_step m K c 12 (duty_in c 12 (by decide)) _ rfl 12 (by decide) (dst := sq r0M) rfl _ (above_O1 c)) $$ [C12 HO P12]
    · isplitr; · iexact HC
      isplitl [C12]; · iexact C12
      isplitl [HO]; · iexact HO
      iexact P12
    iintro ⟨HO, Z12, H0⟩
    unfold pay
    iapply (load_row c (M := ptM) (r := row0) (hu := fun _ => rfl)) $$ Hkeep
    iintro Hkeep
    iapply (load_row c (M := rbM) (r := slotR0) (hu := fun _ => rfl)) $$ H0
    iintro H0
    iapply (load_all c (M := sbM) (r := woR) (View.set_whole _)) $$ Hs
    iintro Hs
    iapply (store_all c (M := sbM) (r := woR) (View.set_whole _) (sbv m c) fun f => (Memref.write_access_unit_zero_univ (Elt F) cc0_scratch4 zero2 _ f _).trans (sbv_keep m c h)) $$ Hs
    iintro Hs
    ihave Hs := (half c sbM (sbv m c)).1 $$ Hs
    icases Hs with ⟨HsL, HsR⟩
    ihave Hr1 := (Entails.of_eq (pts_sq fullShare (p2 c) r1M fr).symm) $$ Hr1
    iapply (send_step m K c (p2 c) _ (dev12_eq c) 10 13 (duty_in _ _ (by decide)) (duty_in _ _ (by decide)) _ _ rfl rfl (src := sbM) (dst := sq r1M) Np rfl rfl rfl fullShare.left
      (fs := sbv m c) (fd := fr) (Entails.refl _)
      (slot_landed (p2 c) r1M fr _ _ (X1_p2 m c).symm) (due (p1 c) 14 Np)) $$ [HsL Hr1 HO T10 T13]
    · isplitr; · iexact HC
      isplitl [HsL]; · iexact HsL
      isplitl [Hr1]; · iexact Hr1
      isplitl [HO]; · iexact HO
      isplitl [T10]; · iexact T10
      iexact T13
    iintro ⟨C10, HO⟩
    iapply (wait_step m K c 13 (duty_in c 13 (by decide)) _ rfl 13 (by decide) (dst := sq r1M) rfl _ (above_due (p1 c) 14 Np (by decide))) $$ [C13 HO P13]
    · isplitr; · iexact HC
      isplitl [C13]; · iexact C13
      isplitl [HO]; · iexact HO
      iexact P13
    iintro ⟨HO, Z13, H1⟩
    unfold pay
    iapply (load_all c (M := sbM) (r := woR) (View.set_whole _)) $$ HsR
    iintro HsR
    iapply (load_row c (M := rbM) (r := slotR1) (hu := fun _ => rfl)) $$ H1
    iintro H1
    iapply (load_all c (M := tbM) (r := woR) (View.set_whole _)) $$ Ht
    iintro Ht
    iapply (store_all c (M := tbM) (r := woR) (View.set_whole _) (tbv m c) fun f => (Memref.write_access_unit_zero_univ (Elt F) cc0_scratch5 zero2 _ f _).trans
      (congrArg (fun X => k0_pay33 X (X1 m c)) (Memref.readAt_unit_zero (Elt F) cc0_scratch4 zero2 _ (sbv m c)))) $$ Ht
    iintro Ht
    rw [wp_ret]
    imodintro
    iapply Hk
    isplitr [HO]
    · unfold post12
      isplitl [Hkeep]; · iapply (Entails.of_eq (show has c pt0M (keepP m c) = has c (keepM c) (keepP m c) from by rw [e])); iexact Hkeep
      isplitl [H0]; · iexact H0
      isplitl [Z12]; · iexact Z12
      isplitl [HsR]; · iexact HsR
      isplitl [C10]; · iexact C10
      isplitl [Z13]; · iexact Z13
      isplitl [H1]; · iexact H1
      iexact Ht
    iexact HO
  · rw [keepE_neg c h]
    simp only [dif_neg (show ¬ Scalar.cmpi .ne (Scalar.extui (0#1 : BitVec 1) : BitVec 32) 0#32 = 1#1 from by decide), dif_pos (show Scalar.cmpi .ne (Scalar.extui (Scalar.xori (0#1 : BitVec 1) 1#1) : BitVec 32) 0#32 = 1#1 from by decide)]
    simp only [semSignalWord, semWaitWord, Prog.lift, Prog.bind_op, Prog.bind_ret, Prog.pure_eq_ret]
    have e : keepM c = pt1M := if_neg h
    ihave Hkeep := (Entails.of_eq (show has c (keepM c) (keepP m c) = has c pt1M (keepP m c) from by rw [e])) $$ Hkeep
    iapply (wait_step m K c 12 (duty_in c 12 (by decide)) _ rfl 12 (by decide) (dst := sq r0M) rfl _ (above_O1 c)) $$ [C12 HO P12]
    · isplitr; · iexact HC
      isplitl [C12]; · iexact C12
      isplitl [HO]; · iexact HO
      iexact P12
    iintro ⟨HO, Z12, H0⟩
    unfold pay
    iapply (load_row c (M := ptM) (r := row1) (hu := fun _ => rfl)) $$ Hkeep
    iintro Hkeep
    iapply (load_row c (M := rbM) (r := slotR0) (hu := fun _ => rfl)) $$ H0
    iintro H0
    iapply (load_all c (M := sbM) (r := woR) (View.set_whole _)) $$ Hs
    iintro Hs
    iapply (store_all c (M := sbM) (r := woR) (View.set_whole _) (sbv m c) fun f => (Memref.write_access_unit_zero_univ (Elt F) cc0_scratch4 zero2 _ f _).trans (sbv_nkeep m c h)) $$ Hs
    iintro Hs
    ihave Hs := (half c sbM (sbv m c)).1 $$ Hs
    icases Hs with ⟨HsL, HsR⟩
    ihave Hr1 := (Entails.of_eq (pts_sq fullShare (p2 c) r1M fr).symm) $$ Hr1
    iapply (send_step m K c (p2 c) _ (dev12_eq c) 10 13 (duty_in _ _ (by decide)) (duty_in _ _ (by decide)) _ _ rfl rfl (src := sbM) (dst := sq r1M) Np rfl rfl rfl fullShare.left
      (fs := sbv m c) (fd := fr) (Entails.refl _)
      (slot_landed (p2 c) r1M fr _ _ (X1_p2 m c).symm) (due (p1 c) 14 Np)) $$ [HsL Hr1 HO T10 T13]
    · isplitr; · iexact HC
      isplitl [HsL]; · iexact HsL
      isplitl [Hr1]; · iexact Hr1
      isplitl [HO]; · iexact HO
      isplitl [T10]; · iexact T10
      iexact T13
    iintro ⟨C10, HO⟩
    iapply (wait_step m K c 13 (duty_in c 13 (by decide)) _ rfl 13 (by decide) (dst := sq r1M) rfl _ (above_due (p1 c) 14 Np (by decide))) $$ [C13 HO P13]
    · isplitr; · iexact HC
      isplitl [C13]; · iexact C13
      isplitl [HO]; · iexact HO
      iexact P13
    iintro ⟨HO, Z13, H1⟩
    unfold pay
    iapply (load_all c (M := sbM) (r := woR) (View.set_whole _)) $$ HsR
    iintro HsR
    iapply (load_row c (M := rbM) (r := slotR1) (hu := fun _ => rfl)) $$ H1
    iintro H1
    iapply (load_all c (M := tbM) (r := woR) (View.set_whole _)) $$ Ht
    iintro Ht
    iapply (store_all c (M := tbM) (r := woR) (View.set_whole _) (tbv m c) fun f => (Memref.write_access_unit_zero_univ (Elt F) cc0_scratch5 zero2 _ f _).trans
      (congrArg (fun X => k0_pay33 X (X1 m c)) (Memref.readAt_unit_zero (Elt F) cc0_scratch4 zero2 _ (sbv m c)))) $$ Ht
    iintro Ht
    rw [wp_ret]
    imodintro
    iapply Hk
    isplitr [HO]
    · unfold post12
      isplitl [Hkeep]; · iapply (Entails.of_eq (show has c pt1M (keepP m c) = has c (keepM c) (keepP m c) from by rw [e])); iexact Hkeep
      isplitl [H0]; · iexact H0
      isplitl [Z12]; · iexact Z12
      isplitl [HsR]; · iexact HsR
      isplitl [C10]; · iexact C10
      isplitl [Z13]; · iexact Z13
      isplitl [H1]; · iexact H1
      iexact Ht
    iexact HO

/-- What the third exchange takes, and what it leaves. -/
def pre13 (c : Dev nD) : sProp 𝕄 :=
  iprop(pts fullShare c tbM (tbv m c) ∗ some_ (F := F) (p1 c) r2M ∗ tok (F := F) c 11 0 ∗ tok (F := F) (p1 c) 14 0 ∗ (cred (due c 14 Np) ∗ pos (F := F) c 14)
    ∗ some_ (F := F) c o0M ∗ some_ (F := F) c o1M ∗ (cred (due c 9 Np) ∗ pos (F := F) c 9))
def post13 (c : Dev nD) : sProp 𝕄 :=
  iprop(pts fullShare.right c tbM (tbv m c) ∗ cred (due c 11 Np) ∗ has c r2M (X2 m c) ∗ zero (F := F) c 14 ∗ pts fullShare c oM (outv m c) ∗ some_ (F := F) c (awayM c) ∗ zero (F := F) c 9)

theorem out_keep (c : Dev nD) (h : c.val < 2) : asm (k0_pay34 (tbv m c)) (k0_pay35 (X2 m c)) = outv m c := by unfold outv; rw [if_pos h]
theorem out_nkeep (c : Dev nD) (h : ¬ c.val < 2) : asm (k0_pay36 (X2 m c)) (k0_pay37 (tbv m c)) = outv m c := by unfold outv; rw [if_neg h]
theorem read_tb (c : Dev nD) : tbM.view.readAt (Elt F) woR.toLoadRect (tbv m c) = tbv m c := Memref.readAt_unit_zero (Elt F) cc0_scratch5 zero2 _ (tbv m c)

set_option maxHeartbeats 400000 in
theorem part13 (c : Dev nD) (a) {Q : _ → sProp 𝕄} :
    iprop(Ctx m K ∗ pre13 m c ∗ owe (F := F) c (due (p1 c) 14 Np))
      ⊢ iprop(((post13 m c ∗ owe (F := F) c 0) -∗ Q ⟨⟩)
        -∗ wp frame (wpE (defs₀ (F := F)) 𝒱₀ (c : Thread nD τ) none) Set.univ (k0_part13 (F := F) xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) ptM (Memref.isWhole_whole _) rbM (Memref.isWhole_whole _) sbM (Memref.isWhole_whole _) tbM (Memref.isWhole_whole _) cc0_scratch6 cc0_scratch7 cc0_scratch8 cc0_scratch9 cc0_scratch10 cc0_scratch11 c (keepE c) a) Q) := by
  rw [k0_part13_eq_skeleton]; unfold k0_part13_skel pre13
  iintro ⟨#HC, ⟨Ht, Hr2, T11, T14, ⟨C14, P14⟩, Ho0, Ho1, ⟨C9, P9⟩⟩, HO⟩ Hk
  ihave Hr2 := (some_ex (F := F) (p1 c) _) $$ Hr2
  icases Hr2 with ⟨%fr, Hr2⟩
  ihave Ht := (half c tbM (tbv m c)).1 $$ Ht
  icases Ht with ⟨HtL, HtR⟩
  ihave Hr2 := (Entails.of_eq (pts_sq fullShare (p1 c) r2M fr).symm) $$ Hr2
  ihave HO := (Entails.of_eq (show owe (F := F) c (due (p1 c) 14 Np) = owe c (0 + due (p1 c) 14 Np) from by rw [zero_add])) $$ HO
  by_cases h : c.val < 2
  · rw [keepE_pos c h]
    simp only [dif_pos (show Scalar.cmpi .ne (Scalar.extui (1#1 : BitVec 1) : BitVec 32) 0#32 = 1#1 from by decide), dif_neg (show ¬ Scalar.cmpi .ne (Scalar.extui (Scalar.xori (1#1 : BitVec 1) 1#1) : BitVec 32) 0#32 = 1#1 from by decide)]
    simp only [semSignalWord, semWaitWord, Prog.lift, Prog.bind_op, Prog.bind_ret, Prog.pure_eq_ret]
    iapply (send_step m K c (p1 c) _ (dev13_eq c) 11 14 (duty_in _ _ (by decide)) (duty_in _ _ (by decide)) _ _ rfl rfl (src := tbM) (dst := sq r2M) Np rfl rfl rfl fullShare.left
      (fs := tbv m c) (fd := fr) (Entails.refl _)
      (slot_landed (p1 c) r2M fr _ _ (X2_p1 m c).symm) 0) $$ [HtL Hr2 HO T11 T14]
    · isplitr; · iexact HC
      isplitl [HtL]; · iexact HtL
      isplitl [Hr2]; · iexact Hr2
      isplitl [HO]; · iexact HO
      isplitl [T11]; · iexact T11
      iexact T14
    iintro ⟨C11, HO⟩
    iapply (wait_step m K c 14 (duty_in c 14 (by decide)) _ rfl 14 (by decide) (dst := sq r2M) rfl _ (above_zero 14)) $$ [C14 HO P14]
    · isplitr; · iexact HC
      isplitl [C14]; · iexact C14
      isplitl [HO]; · iexact HO
      iexact P14
    iintro ⟨HO, Z14, H2⟩
    unfold pay
    iapply (load_all c (M := tbM) (r := woR) (View.set_whole _)) $$ HtR
    iintro HtR
    rw [read_tb m c]
    iapply (load_dead c (M := oM) (r := row0) (hu := fun _ => rfl) (fun _ => rfl)) $$ Ho0
    iintro Ho0
    iapply (store_row c (M := oM) (r := row0) (hu := fun _ => rfl)) $$ Ho0
    iintro Ho0
    iapply (load_row c (M := rbM) (r := slotR2) (hu := fun _ => rfl)) $$ H2
    iintro H2
    iapply (load_dead c (M := oM) (r := row1) (hu := fun _ => rfl) (fun _ => rfl)) $$ Ho1
    iintro Ho1
    iapply (store_row c (M := oM) (r := row1) (hu := fun _ => rfl)) $$ Ho1
    iintro Ho1
    iapply (wait_step m K c 9 (duty_in c 9 (by decide)) _ rfl 14 (by decide) (dst := sq pt1M) rfl _ (above_zero 14)) $$ [C9 HO P9]
    · isplitr; · iexact HC
      isplitl [C9]; · iexact C9
      isplitl [HO]; · iexact HO
      iexact P9
    iintro ⟨HO, Z9, Haway⟩
    unfold pay
    ihave Hout := (join_out c _ _) $$ [Ho0 Ho1]
    · isplitl [Ho0]; · iexact Ho0
      iexact Ho1
    rw [wp_ret]
    imodintro
    iapply Hk
    isplitr [HO]
    · unfold post13
      isplitl [HtR]; · iexact HtR
      isplitl [C11]; · iexact C11
      isplitl [H2]; · iexact H2
      isplitl [Z14]; · iexact Z14
      isplitl [Hout]; · iapply (Entails.of_eq (congrArg (fun X => (pts fullShare c oM X : sProp 𝕄)) (out_keep m c h))); iexact Hout
      isplitl [Haway]; · iexact Haway
      iexact Z9
    iexact HO
  · rw [keepE_neg c h]
    simp only [dif_neg (show ¬ Scalar.cmpi .ne (Scalar.extui (0#1 : BitVec 1) : BitVec 32) 0#32 = 1#1 from by decide), dif_pos (show Scalar.cmpi .ne (Scalar.extui (Scalar.xori (0#1 : BitVec 1) 1#1) : BitVec 32) 0#32 = 1#1 from by decide)]
    simp only [semSignalWord, semWaitWord, Prog.lift, Prog.bind_op, Prog.bind_ret, Prog.pure_eq_ret]
    iapply (send_step m K c (p1 c) _ (dev13_eq c) 11 14 (duty_in _ _ (by decide)) (duty_in _ _ (by decide)) _ _ rfl rfl (src := tbM) (dst := sq r2M) Np rfl rfl rfl fullShare.left
      (fs := tbv m c) (fd := fr) (Entails.refl _)
      (slot_landed (p1 c) r2M fr _ _ (X2_p1 m c).symm) 0) $$ [HtL Hr2 HO T11 T14]
    · isplitr; · iexact HC
      isplitl [HtL]; · iexact HtL
      isplitl [Hr2]; · iexact Hr2
      isplitl [HO]; · iexact HO
      isplitl [T11]; · iexact T11
      iexact T14
    iintro ⟨C11, HO⟩
    iapply (wait_step m K c 14 (duty_in c 14 (by decide)) _ rfl 14 (by decide) (dst := sq r2M) rfl _ (above_zero 14)) $$ [C14 HO P14]
    · isplitr; · iexact HC
      isplitl [C14]; · iexact C14
      isplitl [HO]; · iexact HO
      iexact P14
    iintro ⟨HO, Z14, H2⟩
    unfold pay
    iapply (load_row c (M := rbM) (r := slotR2) (hu := fun _ => rfl)) $$ H2
    iintro H2
    iapply (load_dead c (M := oM) (r := row0) (hu := fun _ => rfl) (fun _ => rfl)) $$ Ho0
    iintro Ho0
    iapply (store_row c (M := oM) (r := row0) (hu := fun _ => rfl)) $$ Ho0
    iintro Ho0
    iapply (load_all c (M := tbM) (r := woR) (View.set_whole _)) $$ HtR
    iintro HtR
    rw [read_tb m c]
    iapply (load_dead c (M := oM) (r := row1) (hu := fun _ => rfl) (fun _ => rfl)) $$ Ho1
    iintro Ho1
    iapply (store_row c (M := oM) (r := row1) (hu := fun _ => rfl)) $$ Ho1
    iintro Ho1
    iapply (wait_step m K c 9 (duty_in c 9 (by decide)) _ rfl 14 (by decide) (dst := sq pt1M) rfl _ (above_zero 14)) $$ [C9 HO P9]
    · isplitr; · iexact HC
      isplitl [C9]; · iexact C9
      isplitl [HO]; · iexact HO
      iexact P9
    iintro ⟨HO, Z9, Haway⟩
    unfold pay
    ihave Hout := (join_out c _ _) $$ [Ho0 Ho1]
    · isplitl [Ho0]; · iexact Ho0
      iexact Ho1
    rw [wp_ret]
    imodintro
    iapply Hk
    isplitr [HO]
    · unfold post13
      isplitl [HtR]; · iexact HtR
      isplitl [C11]; · iexact C11
      isplitl [H2]; · iexact H2
      isplitl [Z14]; · iexact Z14
      isplitl [Hout]; · iapply (Entails.of_eq (congrArg (fun X => (pts fullShare c oM X : sProp 𝕄)) (out_nkeep m c h))); iexact Hout
      isplitl [Haway]; · iexact Haway
      iexact Z9
    iexact HO

/-! ## The last waits -/

/-- What device 0 has left of its keys and values while the copies leave, and the positions it waits at; -/
def pre2 : sProp 𝕄 :=
  iprop(kvDue (F := F) ∗ stay 0 kM (ks m 0) ∗ stay 0 vM (vs m 0)
    ∗ pos (F := F) 0 1 ∗ pos (F := F) 0 2 ∗ pos (F := F) 0 3 ∗ pos (F := F) 0 4 ∗ pos (F := F) 0 5 ∗ pos (F := F) 0 6)
def post2 : sProp 𝕄 :=
  iprop(pts fullShare 0 kM (ks m 0) ∗ pts fullShare 0 vM (vs m 0)
    ∗ zero (F := F) 0 1 ∗ zero (F := F) 0 2 ∗ zero (F := F) 0 3 ∗ zero (F := F) 0 4 ∗ zero (F := F) 0 5 ∗ zero (F := F) 0 6)

set_option maxHeartbeats 400000 in
theorem part2 {Q} :
    iprop(Ctx m K ∗ pre2 m ∗ owe (F := F) 0 0)
      ⊢ iprop(((post2 m ∗ owe (F := F) 0 0) -∗ Q ⟨⟩)
        -∗ wp frame (wpE (defs₀ (F := F)) 𝒱₀ ((0 : Dev nD) : Thread nD τ) none) Set.univ (k0_part2 (F := F) xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) ptM (Memref.isWhole_whole _) rbM (Memref.isWhole_whole _) sbM (Memref.isWhole_whole _) tbM (Memref.isWhole_whole _) cc0_scratch6 cc0_scratch7 cc0_scratch8 cc0_scratch9 cc0_scratch10 cc0_scratch11) Q) := by
  rw [k0_part2_eq_skeleton]; unfold k0_part2_skel pre2 kvDue
  simp only [semSignalWord, semWaitWord, Prog.lift, Prog.bind_op, Prog.bind_ret, Prog.pure_eq_ret]
  iintro ⟨#HC, ⟨⟨⟨C2, C5⟩, ⟨C1, C4⟩, C3, C6⟩, KR, VR, P1, P2, P3, P4, P5, P6⟩, HO⟩ Hk
  iapply (wait_step m K 0 2 (by decide) _ rfl 14 (by decide) (dst := mh8 kM) rfl _ (above_zero 14)) $$ [C2 HO P2]
  · isplitr; · iexact HC
    isplitl [C2]; · iexact C2
    isplitl [HO]; · iexact HO
    iexact P2
  iintro ⟨HO, Z2, H2⟩
  iapply (wait_step m K 0 5 (by decide) _ rfl 14 (by decide) (dst := mh8 vM) rfl _ (above_zero 14)) $$ [C5 HO P5]
  · isplitr; · iexact HC
    isplitl [C5]; · iexact C5
    isplitl [HO]; · iexact HO
    iexact P5
  iintro ⟨HO, Z5, H5⟩
  iapply (wait_step m K 0 1 (by decide) _ rfl 14 (by decide) (dst := mh4 kM) rfl _ (above_zero 14)) $$ [C1 HO P1]
  · isplitr; · iexact HC
    isplitl [C1]; · iexact C1
    isplitl [HO]; · iexact HO
    iexact P1
  iintro ⟨HO, Z1, H1⟩
  iapply (wait_step m K 0 4 (by decide) _ rfl 14 (by decide) (dst := mh4 vM) rfl _ (above_zero 14)) $$ [C4 HO P4]
  · isplitr; · iexact HC
    isplitl [C4]; · iexact C4
    isplitl [HO]; · iexact HO
    iexact P4
  iintro ⟨HO, Z4, H4⟩
  iapply (wait_step m K 0 3 (by decide) _ rfl 14 (by decide) (dst := mh12 kM) rfl _ (above_zero 14)) $$ [C3 HO P3]
  · isplitr; · iexact HC
    isplitl [C3]; · iexact C3
    isplitl [HO]; · iexact HO
    iexact P3
  iintro ⟨HO, Z3, H3⟩
  iapply (wait_step m K 0 6 (by decide) _ rfl 14 (by decide) (dst := mh12 vM) rfl _ (above_zero 14)) $$ [C6 HO P6]
  · isplitr; · iexact HC
    isplitl [C6]; · iexact C6
    isplitl [HO]; · iexact HO
    iexact P6
  iintro ⟨HO, Z6, H6⟩
  unfold pay
  ihave HK := (deal 0 kM (ks m 0)).2 $$ [H2 H1 H3 KR]
  · isplitl [H2]; · iexact H2
    isplitl [H1]; · iexact H1
    isplitl [H3]; · iexact H3
    iexact KR
  ihave HV := (deal 0 vM (vs m 0)).2 $$ [H5 H4 H6 VR]
  · isplitl [H5]; · iexact H5
    isplitl [H4]; · iexact H4
    isplitl [H6]; · iexact H6
    iexact VR
  rw [wp_ret]
  imodintro
  iapply Hk
  isplitr [HO]
  · unfold post2
    isplitl [HK]; · iexact HK
    isplitl [HV]; · iexact HV
    isplitl [Z1]; · iexact Z1
    isplitl [Z2]; · iexact Z2
    isplitl [Z3]; · iexact Z3
    isplitl [Z4]; · iexact Z4
    isplitl [Z5]; · iexact Z5
    iexact Z6
  iexact HO

end Cert.Attn

end
-- ==== Proof.Whole.lean ====
/-
The kernel's body on one device, whole: from what the launch deals the device to the device's results, every semaphore back at zero.
-/
module

public import proofs.«01_k».proof.Proof.Exchange

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Fin 15 → ℕ)

/-- Thirty places in one line. -/
theorem fifteen (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) := by
  rw [bigSep_eq_bigSepL_of_eq [0, 1, 2, 3, 4, 5, 6, 7, 8, 9, 10, 11, 12, 13, 14] (by decide) (by decide)]
  rfl

/-- A semaphore nobody pays is closed at once. -/
theorem idle_close (c : Dev nD) (k : Fin 15) (h : dutyTab c k = ∅) : iprop(Ctx m K ∗ pos (F := F) c k) ⊢ iprop(|={Set.univ}=> zero (F := F) c k) := by
  iintro ⟨#HC, Hp⟩
  iapply (Rounds.cell_close ER (Rd m) (Set.mem_univ (K (c, k))) (fun h => h) (R := 0) (fun r _ => by
    rcases Nat.eq_zero_or_pos r with rfl | hr
    · rw [duties_at, h]
    · exact duties_later m _ r hr))
  isplitr; · iapply (ctx_inv m K (c, k)); iexact HC
  iexact Hp

/-- The tokens of what device `c` pays; -/
def toks (c : Dev nD) : sProp 𝕄 :=
  iprop((tok (F := F) (nth c 1) 0 c ∗ tok (F := F) (nth c 2) 0 c ∗ tok (F := F) (nth c 3) 0 c) ∗ (tok (F := F) c 9 0 ∗ tok (F := F) c 10 0 ∗ tok (F := F) c 11 0)
    ∗ (tok (F := F) (p1 c) 12 0 ∗ tok (F := F) (p2 c) 13 0 ∗ tok (F := F) (p1 c) 14 0) ∗ (if c = 0 then kvToks (F := F) else iprop(emp)))
/-- the credits of what it waits for. -/
def creds (c : Dev nD) : sProp 𝕄 :=
  iprop(cred (due c 0 3) ∗ cred (due c 12 Np) ∗ cred (due c 13 Np) ∗ cred (due c 14 Np) ∗ (if c = 0 then iprop(emp) else iprop(cred (due c 7 Nkv) ∗ cred (due c 8 Nkv))))

/-- The operands on device `c`; the scratch buffers. -/
def ops (c : Dev nD) : sProp 𝕄 :=
  iprop(pts fullShare c xM (xs m c) ∗ pts fullShare c wqM (wqs m c) ∗ pts fullShare c kM (ks m c) ∗ pts fullShare c vM (vs m c) ∗ pts fullShare c woM (wos m c))
def scr (c : Dev nD) : sProp 𝕄 :=
  iprop(some_ (F := F) c kbM ∗ some_ (F := F) c vbM ∗ some_ (F := F) c ptM ∗ some_ (F := F) c rbM ∗ some_ (F := F) c sbM ∗ some_ (F := F) c tbM)

theorem pts_some {s : Shape} {e : EltTy} (c : Dev nD) (M : Memref sig .tc .vmem s e) (f : Buf (Elt F) (M.view.loc (c : Thread nD τ))) :
    (pts fullShare c M f : sProp 𝕄) ⊢ some_ (F := F) c M := (pts_has c f).trans (has_some c)

/-- From what both devices' last parts leave, the scratch buffers back. -/
theorem scr_back (c : Dev nD) :
    iprop((pts fullShare c kbM (kcont m c) ∗ pts fullShare c vbM (vcont m c)) ∗ (has c (keepM c) (keepP m c) ∗ some_ (F := F) c (awayM c))
      ∗ (has c r0M (X0 m c) ∗ has c r1M (X1 m c) ∗ has c r2M (X2 m c)) ∗ (pts fullShare.left c sbM (sbv m c) ∗ pts fullShare.right c sbM (sbv m c))
      ∗ (pts fullShare.left c tbM (tbv m c) ∗ pts fullShare.right c tbM (tbv m c)) : sProp 𝕄) ⊢ scr (F := F) c := by
  unfold scr
  iintro ⟨⟨Hkb, Hvb⟩, ⟨Hkeep, Haway⟩, ⟨H0, H1, H2⟩, Hs, Ht⟩
  isplitl [Hkb]; · iapply (pts_some c kbM _) $$ Hkb
  isplitl [Hvb]; · iapply (pts_some c vbM _) $$ Hvb
  isplitl [Hkeep Haway]
  · ihave Hkeep := (has_some (F := F) c) $$ Hkeep
    by_cases h : c.val < 2
    · rw [show keepM c = pt0M from if_pos h, show awayM c = pt1M from if_pos h]
      iapply (join_some c ptM (r := row0) (r' := row1) (fun _ => rfl) (fun _ => rfl) rows_disj rows_union)
      isplitl [Hkeep]; · iexact Hkeep
      iexact Haway
    · rw [show keepM c = pt1M from if_neg h, show awayM c = pt0M from if_neg h]
      iapply (join_some c ptM (r := row0) (r' := row1) (fun _ => rfl) (fun _ => rfl) rows_disj rows_union)
      isplitl [Haway]; · iexact Haway
      iexact Hkeep
  isplitl [H0 H1 H2]
  · iapply (join_slots (F := F) c)
    isplitl [H0]; · iapply (has_some c) $$ H0
    isplitl [H1]; · iapply (has_some c) $$ H1
    iapply (has_some c) $$ H2
  isplitl [Hs]
  · iapply (pts_some c sbM (sbv m c)); iapply (half c sbM (sbv m c)).2 $$ Hs
  iapply (pts_some c tbM (tbv m c)); iapply (half c tbM (tbv m c)).2 $$ Ht

/-- What the body takes on device `c`, and what it leaves. -/
def bodyIn (c : Dev nD) : sProp 𝕄 :=
  iprop((bigSep Finset.univ fun k : Fin 15 => pos (F := F) c k) ∗ toks (F := F) c ∗ creds (F := F) c ∗ scr (F := F) c)
def bodyOut (c : Dev nD) : sProp 𝕄 :=
  iprop((bigSep Finset.univ fun k : Fin 15 => zero (F := F) c k) ∗ scr (F := F) c)

theorem deal_rows (c : Dev nD) (P : Vec F S1x256x512 .f32) (P' : Vec F S1x256x512 .f32) (h0 : P = P0 m c) (h1 : P' = P1 m c) :
    iprop(has c pt0M P ∗ has c pt1M P' : sProp 𝕄) ⊢ iprop(has c (awayM c) (givP m c) ∗ has c (keepM c) (keepP m c)) := by
  subst h0 h1
  unfold givP keepP
  iintro ⟨H0, H1⟩
  by_cases h : c.val < 2
  · rw [show keepM c = pt0M from if_pos h, show awayM c = pt1M from if_pos h, if_pos h, if_pos h]
    isplitl [H1]; · iexact H1
    iexact H0
  · rw [show keepM c = pt1M from if_neg h, show awayM c = pt0M from if_neg h, if_neg h, if_neg h]
    isplitl [H0]; · iexact H0
    iexact H1

set_option maxHeartbeats 1000000 in
theorem body_ne (c : Dev nD) (h : c ≠ 0) {Q : PUnit → sProp 𝕄} :
    iprop(Ctx m K ∗ bodyIn (F := F) c ∗ ops m c ∗ some_ (F := F) c oM ∗ owe (F := F) c (O₀ c))
      ⊢ iprop(((bodyOut (F := F) c ∗ ops m c ∗ pts fullShare c oM (outv m c) ∗ owe (F := F) c 0) -∗ Q ⟨⟩)
        -∗ wp frame (wpE (defs₀ (F := F)) 𝒱₀ (c : Thread nD τ) none) Set.univ (cc0_body (F := F) xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) ptM (Memref.isWhole_whole _) rbM (Memref.isWhole_whole _) sbM (Memref.isWhole_whole _) tbM (Memref.isWhole_whole _) cc0_scratch6 cc0_scratch7 cc0_scratch8 cc0_scratch9 cc0_scratch10 cc0_scratch11) Q) := by
  simp only [cc0_body_eq_skeleton]; unfold cc0_body_skel
  unfold bodyIn bodyOut toks creds ops scr
  iintro ⟨#HC, ⟨Hpos, ⟨⟨Tb1, Tb2, Tb3⟩, ⟨T9, T10, T11⟩, ⟨T12, T13, T14⟩, Tkv⟩, ⟨C0, C12, C13, C14, Ckv⟩, ⟨Hkb, Hvb, Hpt, Hrb, Hsb, Htb⟩⟩, ⟨Hx, Hwq, HK, HV, Hwo⟩, Hout, HO⟩ Hk
  ihave Hpos := (Entails.of_eq (fifteen fun k => pos (F := F) c k)) $$ Hpos
  icases Hpos with ⟨P0, P1, P2, P3, P4, P5, P6, P7, P8, P9, P10, P11, P12, P13, P14⟩
  ihave Hpt := (split2 (F := F) c ptM (r := row0) (r' := row1) (fun _ => rfl) (fun _ => rfl) rows_disj rows_union) $$ Hpt
  icases Hpt with ⟨Hpt0, Hpt1⟩
  ihave Hout := (split2 (F := F) c oM (r := row0) (r' := row1) (fun _ => rfl) (fun _ => rfl) rows_disj rows_union) $$ Hout
  icases Hout with ⟨Ho0, Ho1⟩
  ihave Hrb := (split_slots (F := F) c) $$ Hrb
  icases Hrb with ⟨Hr0, Hr1, Hr2⟩
  ihave Hbar := (bar_out (F := F) c) $$ [Hkb Hvb Hr0 Hr1 Hr2]
  · rw [if_neg h]
    isplitl [Hkb Hvb]
    · isplitl [Hkb]; · iexact Hkb
      iexact Hvb
    isplitl [Hr0]; · iexact Hr0
    isplitl [Hr1]; · iexact Hr1
    iexact Hr2
  icases Hbar with ⟨Hb1, Hb2, Hb3⟩
  ihave Ckv := (Entails.of_eq (if_neg h)) $$ Ckv
  icases Ckv with ⟨C7, C8⟩
  rw [wp_bind]
  iapply (part3 m K c) $$ [Hx Hwq Hb1 HO Tb1]
  · isplitr; · iexact HC
    isplitl [Hx]; · iexact Hx
    isplitl [Hwq]; · iexact Hwq
    isplitl [Hb1]; · iexact Hb1
    isplitl [HO]; · iexact HO
    iexact Tb1
  iintro ⟨Hx, Hwq, HO⟩
  try dsimp only
  rw [wp_bind]
  iapply (part4_ne m K c h _ _) $$ [Hb2 Hb3 HO Tb2 Tb3 C0 P0]
  · isplitr; · iexact HC
    unfold pre4
    isplitl [Hb2]; · iexact Hb2
    isplitl [Hb3]; · iexact Hb3
    isplitl [HO]; · iexact HO
    isplitl [Tb2]; · iexact Tb2
    isplitl [Tb3]; · iexact Tb3
    isplitl [C0]; · iexact C0
    iexact P0
  iintro ⟨Z0, ⟨Hpr0, Hpr2⟩, Hpr1, HO⟩
  try dsimp only
  rw [wp_bind]
  iapply (part5_ne m K c h) $$ [C7 P7 C8 P8 HO]
  · isplitr; · iexact HC
    isplitr [HO]
    · unfold pre5
      isplitl [C7 P7]
      · isplitl [C7]; · iexact C7
        iexact P7
      isplitl [C8]; · iexact C8
      iexact P8
    iexact HO
  iintro ⟨Hkb, Hvb, Z7, Z8, HO⟩
  try dsimp only
  rw [wp_bind]
  iapply (part6 m c (q0 m c) _ _ _ _) $$ [Hwo Hkb Hvb]
  · isplitl [Hwo]; · iexact Hwo
    isplitl [Hkb]; · iexact Hkb
    iexact Hvb
  iintro ⟨Hwo, Hkb, Hvb⟩
  try dsimp only
  rw [k0_part7_eq_skeleton]; unfold k0_part7_skel
  simp only [Prog.bind_ret, Prog.pure_eq_ret]
  rw [wp_bind]
  iapply (part8 m c (q1 m c) _ _ _ _ _ _) $$ [Hpt0 Hkb Hvb]
  · isplitl [Hpt0]; · iexact Hpt0
    isplitl [Hkb]; · iexact Hkb
    iexact Hvb
  iintro ⟨Hpt0, Hkb, Hvb⟩
  try dsimp only
  rw [k0_part9_eq_skeleton]; unfold k0_part9_skel
  simp only [Prog.bind_ret, Prog.pure_eq_ret]
  rw [wp_bind]
  iapply (part10 c _ _ _ _ _ _ _ _ _) $$ Hpt1
  iintro Hpt1
  try dsimp only
  ihave Hrows := (deal_rows m c _ _ rfl rfl) $$ [Hpt0 Hpt1]
  · isplitl [Hpt0]; · iexact Hpt0
    iexact Hpt1
  icases Hrows with ⟨Haway, Hkeep⟩
  rw [wp_bind]
  iapply (part11 m K c) $$ [Haway Hpr0 T9 T12 HO]
  · isplitr; · iexact HC
    isplitl [Haway Hpr0 T9 T12]
    · unfold pre11
      isplitl [Haway]; · iexact Haway
      isplitl [Hpr0]; · iexact Hpr0
      isplitl [T9]; · iexact T9
      iexact T12
    iexact HO
  iintro ⟨C9, HO⟩
  try dsimp only
  rw [wp_bind]
  iapply (part12 m K c _) $$ [Hkeep C12 P12 Hsb Hpr1 T10 T13 C13 P13 Htb HO]
  · isplitr; · iexact HC
    isplitr [HO]
    · unfold pre12
      isplitl [Hkeep]; · iexact Hkeep
      isplitl [C12 P12]
      · isplitl [C12]; · iexact C12
        iexact P12
      isplitl [Hsb]; · iexact Hsb
      isplitl [Hpr1]; · iexact Hpr1
      isplitl [T10]; · iexact T10
      isplitl [T13]; · iexact T13
      isplitl [C13 P13]
      · isplitl [C13]; · iexact C13
        iexact P13
      iexact Htb
    iexact HO
  iintro ⟨H12, HO⟩
  unfold post12
  icases H12 with ⟨Hkeep, H0, Z12, HsR, C10, Z13, H1, Ht⟩
  try dsimp only
  rw [wp_bind]
  iapply (part13 m K c _) $$ [Ht Hpr2 T11 T14 C14 P14 Ho0 Ho1 C9 P9 HO]
  · isplitr; · iexact HC
    isplitr [HO]
    · unfold pre13
      isplitl [Ht]; · iexact Ht
      isplitl [Hpr2]; · iexact Hpr2
      isplitl [T11]; · iexact T11
      isplitl [T14]; · iexact T14
      isplitl [C14 P14]
      · isplitl [C14]; · iexact C14
        iexact P14
      isplitl [Ho0]; · iexact Ho0
      isplitl [Ho1]; · iexact Ho1
      isplitl [C9]; · iexact C9
      iexact P9
    iexact HO
  iintro ⟨H13, HO⟩
  unfold post13
  icases H13 with ⟨HtR, C11, H2, Z14, Hout, Haway, Z9⟩
  try dsimp only
  simp only [Prog.lift, Prog.bind_op, Prog.bind_ret, Prog.pure_eq_ret]
  iapply (wait_step m K c 10 (duty_in c 10 (by decide)) _ rfl 14 (by decide) (dst := sbM) rfl _ (above_zero 14)) $$ [C10 HO P10]
  · isplitr; · iexact HC
    isplitl [C10]; · iexact C10
    isplitl [HO]; · iexact HO
    iexact P10
  iintro ⟨HO, Z10, HsL⟩
  iapply (wait_step m K c 11 (duty_in c 11 (by decide)) _ rfl 14 (by decide) (dst := tbM) rfl _ (above_zero 14)) $$ [C11 HO P11]
  · isplitr; · iexact HC
    isplitl [C11]; · iexact C11
    isplitl [HO]; · iexact HO
    iexact P11
  iintro ⟨HO, Z11, HtL⟩
  unfold pay
  ihave Hscr := (scr_back m c) $$ [Hkb Hvb Hkeep Haway H0 H1 H2 HsL HsR HtL HtR]
  · isplitl [Hkb Hvb]
    · isplitl [Hkb]; · iexact Hkb
      iexact Hvb
    isplitl [Hkeep Haway]
    · isplitl [Hkeep]; · iexact Hkeep
      iexact Haway
    isplitl [H0 H1 H2]
    · isplitl [H0]; · iexact H0
      isplitl [H1]; · iexact H1
      iexact H2
    isplitl [HsL HsR]
    · isplitl [HsL]; · iexact HsL
      iexact HsR
    isplitl [HtL]; · iexact HtL
    iexact HtR
  simp only [dif_neg (lastE_ne c h)]
  imod (idle_close m K c 1 (by clear * - h; revert c; decide)) $$ [P1] with Z1
  · isplitr; · iexact HC
    iexact P1
  imod (idle_close m K c 2 (by clear * - h; revert c; decide)) $$ [P2] with Z2
  · isplitr; · iexact HC
    iexact P2
  imod (idle_close m K c 3 (by clear * - h; revert c; decide)) $$ [P3] with Z3
  · isplitr; · iexact HC
    iexact P3
  imod (idle_close m K c 4 (by clear * - h; revert c; decide)) $$ [P4] with Z4
  · isplitr; · iexact HC
    iexact P4
  imod (idle_close m K c 5 (by clear * - h; revert c; decide)) $$ [P5] with Z5
  · isplitr; · iexact HC
    iexact P5
  imod (idle_close m K c 6 (by clear * - h; revert c; decide)) $$ [P6] with Z6
  · isplitr; · iexact HC
    iexact P6
  rw [wp_ret]
  imodintro
  iapply Hk
  isplitr [Hx Hwq HK HV Hwo Hout HO]
  · isplitr [Hscr]
    · iapply (Entails.of_eq (fifteen fun k => zero (F := F) c k).symm)
      isplitl [Z0]; · iexact Z0
      isplitl [Z1]; · iexact Z1
      isplitl [Z2]; · iexact Z2
      isplitl [Z3]; · iexact Z3
      isplitl [Z4]; · iexact Z4
      isplitl [Z5]; · iexact Z5
      isplitl [Z6]; · iexact Z6
      isplitl [Z7]; · iexact Z7
      isplitl [Z8]; · iexact Z8
      isplitl [Z9]; · iexact Z9
      isplitl [Z10]; · iexact Z10
      isplitl [Z11]; · iexact Z11
      isplitl [Z12]; · iexact Z12
      isplitl [Z13]; · iexact Z13
      iexact Z14
    unfold scr
    iexact Hscr
  isplitl [Hx Hwq HK HV Hwo]
  · isplitl [Hx]; · iexact Hx
    isplitl [Hwq]; · iexact Hwq
    isplitl [HK]; · iexact HK
    isplitl [HV]; · iexact HV
    iexact Hwo
  isplitl [Hout]; · iexact Hout
  iexact HO

set_option maxHeartbeats 1000000 in
theorem body_zero  {Q : PUnit → sProp 𝕄} :
    iprop(Ctx m K ∗ bodyIn (F := F) 0 ∗ ops m 0 ∗ some_ (F := F) 0 oM ∗ owe (F := F) 0 (O₀ 0))
      ⊢ iprop(((bodyOut (F := F) 0 ∗ ops m 0 ∗ pts fullShare 0 oM (outv m 0) ∗ owe (F := F) 0 0) -∗ Q ⟨⟩)
        -∗ wp frame (wpE (defs₀ (F := F)) 𝒱₀ ((0 : Dev nD) : Thread nD τ) none) Set.univ (cc0_body (F := F) xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) ptM (Memref.isWhole_whole _) rbM (Memref.isWhole_whole _) sbM (Memref.isWhole_whole _) tbM (Memref.isWhole_whole _) cc0_scratch6 cc0_scratch7 cc0_scratch8 cc0_scratch9 cc0_scratch10 cc0_scratch11) Q) := by
  simp only [cc0_body_eq_skeleton]; unfold cc0_body_skel
  unfold bodyIn bodyOut toks creds ops scr
  iintro ⟨#HC, ⟨Hpos, ⟨⟨Tb1, Tb2, Tb3⟩, ⟨T9, T10, T11⟩, ⟨T12, T13, T14⟩, Tkv⟩, ⟨C0, C12, C13, C14, Ckv⟩, ⟨Hkb, Hvb, Hpt, Hrb, Hsb, Htb⟩⟩, ⟨Hx, Hwq, HK, HV, Hwo⟩, Hout, HO⟩ Hk
  ihave Hpos := (Entails.of_eq (fifteen fun k => pos (F := F) 0 k)) $$ Hpos
  icases Hpos with ⟨P0, P1, P2, P3, P4, P5, P6, P7, P8, P9, P10, P11, P12, P13, P14⟩
  ihave Hpt := (split2 (F := F) 0 ptM (r := row0) (r' := row1) (fun _ => rfl) (fun _ => rfl) rows_disj rows_union) $$ Hpt
  icases Hpt with ⟨Hpt0, Hpt1⟩
  ihave Hout := (split2 (F := F) 0 oM (r := row0) (r' := row1) (fun _ => rfl) (fun _ => rfl) rows_disj rows_union) $$ Hout
  icases Hout with ⟨Ho0, Ho1⟩
  ihave Hrb := (split_slots (F := F) 0) $$ Hrb
  icases Hrb with ⟨Hr0, Hr1, Hr2⟩
  ihave Hbar := (bar_out (F := F) 0) $$ [Hr0 Hr1 Hr2]
  · rw [if_pos rfl]
    isplitr; · iempintro
    isplitl [Hr0]; · iexact Hr0
    isplitl [Hr1]; · iexact Hr1
    iexact Hr2
  icases Hbar with ⟨Hb1, Hb2, Hb3⟩
  ihave Tkv := (Entails.of_eq (if_pos rfl)) $$ Tkv
  rw [wp_bind]
  iapply (part3 m K 0) $$ [Hx Hwq Hb1 HO Tb1]
  · isplitr; · iexact HC
    isplitl [Hx]; · iexact Hx
    isplitl [Hwq]; · iexact Hwq
    isplitl [Hb1]; · iexact Hb1
    isplitl [HO]; · iexact HO
    iexact Tb1
  iintro ⟨Hx, Hwq, HO⟩
  try dsimp only
  rw [wp_bind]
  iapply (part4_zero m K _ _) $$ [Hb2 Hb3 HO Tb2 Tb3 C0 P0 HK HV Hkb Hvb Tkv]
  · isplitr; · iexact HC
    isplitl [Hb2 Hb3 HO Tb2 Tb3 C0 P0]
    · unfold pre4
      isplitl [Hb2]; · iexact Hb2
      isplitl [Hb3]; · iexact Hb3
      isplitl [HO]; · iexact HO
      isplitl [Tb2]; · iexact Tb2
      isplitl [Tb3]; · iexact Tb3
      isplitl [C0]; · iexact C0
      iexact P0
    isplitl [HK]; · iexact HK
    isplitl [HV]; · iexact HV
    isplitl [Hkb]; · iexact Hkb
    isplitl [Hvb]; · iexact Hvb
    iexact Tkv
  iintro ⟨Z0, ⟨Hpr0, Hpr2⟩, Hpr1, HO, KR, VR, Hkb, Hvb, Hdue⟩
  try dsimp only
  rw [wp_bind]
  iapply (part5_zero (F := F)) $$ []
  · iempintro
  iintro -
  try dsimp only
  rw [wp_bind]
  iapply (part6 m 0 (q0 m 0) _ _ _ _) $$ [Hwo Hkb Hvb]
  · isplitl [Hwo]; · iexact Hwo
    isplitl [Hkb]; · iexact Hkb
    iexact Hvb
  iintro ⟨Hwo, Hkb, Hvb⟩
  try dsimp only
  rw [k0_part7_eq_skeleton]; unfold k0_part7_skel
  simp only [Prog.bind_ret, Prog.pure_eq_ret]
  rw [wp_bind]
  iapply (part8 m 0 (q1 m 0) _ _ _ _ _ _) $$ [Hpt0 Hkb Hvb]
  · isplitl [Hpt0]; · iexact Hpt0
    isplitl [Hkb]; · iexact Hkb
    iexact Hvb
  iintro ⟨Hpt0, Hkb, Hvb⟩
  try dsimp only
  rw [k0_part9_eq_skeleton]; unfold k0_part9_skel
  simp only [Prog.bind_ret, Prog.pure_eq_ret]
  rw [wp_bind]
  iapply (part10 0 _ _ _ _ _ _ _ _ _) $$ Hpt1
  iintro Hpt1
  try dsimp only
  ihave Hrows := (deal_rows m 0 _ _ rfl rfl) $$ [Hpt0 Hpt1]
  · isplitl [Hpt0]; · iexact Hpt0
    iexact Hpt1
  icases Hrows with ⟨Haway, Hkeep⟩
  rw [wp_bind]
  iapply (part11 m K 0) $$ [Haway Hpr0 T9 T12 HO]
  · isplitr; · iexact HC
    isplitl [Haway Hpr0 T9 T12]
    · unfold pre11
      isplitl [Haway]; · iexact Haway
      isplitl [Hpr0]; · iexact Hpr0
      isplitl [T9]; · iexact T9
      iexact T12
    iexact HO
  iintro ⟨C9, HO⟩
  try dsimp only
  rw [wp_bind]
  iapply (part12 m K 0 _) $$ [Hkeep C12 P12 Hsb Hpr1 T10 T13 C13 P13 Htb HO]
  · isplitr; · iexact HC
    isplitr [HO]
    · unfold pre12
      isplitl [Hkeep]; · iexact Hkeep
      isplitl [C12 P12]
      · isplitl [C12]; · iexact C12
        iexact P12
      isplitl [Hsb]; · iexact Hsb
      isplitl [Hpr1]; · iexact Hpr1
      isplitl [T10]; · iexact T10
      isplitl [T13]; · iexact T13
      isplitl [C13 P13]
      · isplitl [C13]; · iexact C13
        iexact P13
      iexact Htb
    iexact HO
  iintro ⟨H12, HO⟩
  unfold post12
  icases H12 with ⟨Hkeep, H0, Z12, HsR, C10, Z13, H1, Ht⟩
  try dsimp only
  rw [wp_bind]
  iapply (part13 m K 0 _) $$ [Ht Hpr2 T11 T14 C14 P14 Ho0 Ho1 C9 P9 HO]
  · isplitr; · iexact HC
    isplitr [HO]
    · unfold pre13
      isplitl [Ht]; · iexact Ht
      isplitl [Hpr2]; · iexact Hpr2
      isplitl [T11]; · iexact T11
      isplitl [T14]; · iexact T14
      isplitl [C14 P14]
      · isplitl [C14]; · iexact C14
        iexact P14
      isplitl [Ho0]; · iexact Ho0
      isplitl [Ho1]; · iexact Ho1
      isplitl [C9]; · iexact C9
      iexact P9
    iexact HO
  iintro ⟨H13, HO⟩
  unfold post13
  icases H13 with ⟨HtR, C11, H2, Z14, Hout, Haway, Z9⟩
  try dsimp only
  simp only [Prog.lift, Prog.bind_op, Prog.bind_ret, Prog.pure_eq_ret]
  iapply (wait_step m K 0 10 (duty_in 0 10 (by decide)) _ rfl 14 (by decide) (dst := sbM) rfl _ (above_zero 14)) $$ [C10 HO P10]
  · isplitr; · iexact HC
    isplitl [C10]; · iexact C10
    isplitl [HO]; · iexact HO
    iexact P10
  iintro ⟨HO, Z10, HsL⟩
  iapply (wait_step m K 0 11 (duty_in 0 11 (by decide)) _ rfl 14 (by decide) (dst := tbM) rfl _ (above_zero 14)) $$ [C11 HO P11]
  · isplitr; · iexact HC
    isplitl [C11]; · iexact C11
    isplitl [HO]; · iexact HO
    iexact P11
  iintro ⟨HO, Z11, HtL⟩
  unfold pay
  ihave Hscr := (scr_back m 0) $$ [Hkb Hvb Hkeep Haway H0 H1 H2 HsL HsR HtL HtR]
  · isplitl [Hkb Hvb]
    · isplitl [Hkb]; · iexact Hkb
      iexact Hvb
    isplitl [Hkeep Haway]
    · isplitl [Hkeep]; · iexact Hkeep
      iexact Haway
    isplitl [H0 H1 H2]
    · isplitl [H0]; · iexact H0
      isplitl [H1]; · iexact H1
      iexact H2
    isplitl [HsL HsR]
    · isplitl [HsL]; · iexact HsL
      iexact HsR
    isplitl [HtL]; · iexact HtL
    iexact HtR
  simp only [dif_pos lastE_zero]
  rw [wp_bind]
  iapply (part2 m K) $$ [Hdue KR VR P1 P2 P3 P4 P5 P6 HO]
  · isplitr; · iexact HC
    isplitr [HO]
    · unfold pre2
      isplitl [Hdue]; · iexact Hdue
      isplitl [KR]; · iexact KR
      isplitl [VR]; · iexact VR
      isplitl [P1]; · iexact P1
      isplitl [P2]; · iexact P2
      isplitl [P3]; · iexact P3
      isplitl [P4]; · iexact P4
      isplitl [P5]; · iexact P5
      iexact P6
    iexact HO
  iintro ⟨H2p, HO⟩
  unfold post2
  icases H2p with ⟨HK, HV, Z1, Z2, Z3, Z4, Z5, Z6⟩
  imod (idle_close m K 0 7 (by decide)) $$ [P7] with Z7
  · isplitr; · iexact HC
    iexact P7
  imod (idle_close m K 0 8 (by decide)) $$ [P8] with Z8
  · isplitr; · iexact HC
    iexact P8
  rw [wp_ret]
  imodintro
  iapply Hk
  isplitr [Hx Hwq HK HV Hwo Hout HO]
  · isplitr [Hscr]
    · iapply (Entails.of_eq (fifteen fun k => zero (F := F) 0 k).symm)
      isplitl [Z0]; · iexact Z0
      isplitl [Z1]; · iexact Z1
      isplitl [Z2]; · iexact Z2
      isplitl [Z3]; · iexact Z3
      isplitl [Z4]; · iexact Z4
      isplitl [Z5]; · iexact Z5
      isplitl [Z6]; · iexact Z6
      isplitl [Z7]; · iexact Z7
      isplitl [Z8]; · iexact Z8
      isplitl [Z9]; · iexact Z9
      isplitl [Z10]; · iexact Z10
      isplitl [Z11]; · iexact Z11
      isplitl [Z12]; · iexact Z12
      isplitl [Z13]; · iexact Z13
      iexact Z14
    unfold scr
    iexact Hscr
  isplitl [Hx Hwq HK HV Hwo]
  · isplitl [Hx]; · iexact Hx
    isplitl [Hwq]; · iexact Hwq
    isplitl [HK]; · iexact HK
    isplitl [HV]; · iexact HV
    iexact Hwo
  isplitl [Hout]; · iexact Hout
  iexact HO

end Cert.Attn

end
-- ==== Proof.Launch.lean ====
/-
The launch: the protocol's ghost state dealt to the four devices, the body's obligation at each, and the run of the whole program.
-/
module

public import proofs.«01_k».proof.Proof.Whole
public import Idealize.ShloMosaic.Lib.Pipeline.CollectiveSegs

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

variable (ρ : Dev nD → PrngReg)

/-! ## The body's obligation -/

/-- What device `c` brings to the body but for the scratch buffers. -/
def start (c : Dev nD) : sProp 𝕄 :=
  iprop((∃ K, Ctx m K) ∗ (bigSep Finset.univ fun k : Fin 15 => pos (F := F) c k) ∗ toks (F := F) c ∗ creds (F := F) c)
def Φ₀ (c : Dev nD) : sProp 𝕄 := iprop(start m c ∗ scr (F := F) c)

def dats (_ : Fin 1) (c : Dev nD) : Dat τ (Elt F) Unit ℕ UU ℕ cfg0 c where
  A w := m ((cfg0.win w).arr.view.loc (c : Thread nD τ))
  after w _ := match w with
    | ⟨0, _⟩ => xs m c
    | ⟨1, _⟩ => wqs m c
    | ⟨2, _⟩ => ks m c
    | ⟨3, _⟩ => vs m c
    | ⟨4, _⟩ => wos m c
    | ⟨5, _⟩ => outv m c
  Φ t := match t with
    | ⟨0, _⟩ => Φ₀ m c
    | ⟨_ + 1, _⟩ => bodyOut (F := F) c
  q _ := fullShare
  owed t := match t with
    | ⟨0, _⟩ => O₀ c
    | ⟨_ + 1, _⟩ => 0

set_option maxRecDepth 4000 in
def bodyPre (c : Dev nD) : sProp 𝕄 :=
  iprop(Φ₀ m c ∗ (dats m 0 c).owesAt () t0_0.castSucc
    ∗ (∃ d, has c xM ((dats m 0 c).before (0 : Fin 6) t0_0 d)) ∗ (∃ d, has c wqM ((dats m 0 c).before (1 : Fin 6) t0_0 d))
    ∗ (∃ d, has c kM ((dats m 0 c).before (2 : Fin 6) t0_0 d)) ∗ (∃ d, has c vM ((dats m 0 c).before (3 : Fin 6) t0_0 d))
    ∗ (∃ d, has c woM ((dats m 0 c).before (4 : Fin 6) t0_0 d)) ∗ (∃ d, has c oM ((dats m 0 c).before (5 : Fin 6) t0_0 d)))

def bodyPost (c : Dev nD) : sProp 𝕄 :=
  iprop(bodyOut (F := F) c ∗ (dats m 0 c).owesAt () t0_0.succ
    ∗ has c xM (xs m c) ∗ has c wqM (wqs m c) ∗ has c kM (ks m c) ∗ has c vM (vs m c) ∗ has c woM (wos m c) ∗ has c oM (outv m c))

/-- A buffer that reads as `X` in a way only `f₀` does holds `f₀`. -/
theorem has_pts (c : Dev nD) {s : Shape} {e : EltTy} (M : Memref sig .tc .vmem s e) (X : Vec F s e) (f₀ : Buf (Elt F) (M.view.loc (c : Thread nD τ)))
    (h : ∀ f : Buf (Elt F) (M.view.loc (c : Thread nD τ)), M.view.read (Elt F) f = X → f = f₀) : (has c M X : sProp 𝕄) ⊢ pts fullShare c M f₀ := by
  unfold has
  iintro ⟨%f, %hf, H⟩
  rw [h f hf]
  iexact H

theorem before0 (c : Dev nD) (d) : (dats m 0 c).before (0 : Fin 6) t0_0 d = xs m c := by
  unfold Dat.before; rw [if_pos (fetch0_0 t0_0)]; exact funext fun j => rfl
theorem staged0 (c : Dev nD) (d) : (has c xM ((dats m 0 c).before (0 : Fin 6) t0_0 d) : sProp 𝕄) ⊢ pts fullShare c xM (xs m c) := by
  rw [before0]; exact has_pts c xM (xs m c) (xs m c) fun f hf => by
    simp only [Memref.view_whole, View.read_whole] at hf; exact hf
theorem before1 (c : Dev nD) (d) : (dats m 0 c).before (1 : Fin 6) t0_0 d = wqs m c := by
  unfold Dat.before; rw [if_pos (fetch0_1 t0_0)]; exact funext fun j => rfl
theorem staged1 (c : Dev nD) (d) : (has c wqM ((dats m 0 c).before (1 : Fin 6) t0_0 d) : sProp 𝕄) ⊢ pts fullShare c wqM (wqs m c) := by
  rw [before1]; exact has_pts c wqM (wqs m c) (wqs m c) fun f hf => by
    simp only [Memref.view_whole, View.read_whole] at hf; exact hf
theorem before2 (c : Dev nD) (d) : (dats m 0 c).before (2 : Fin 6) t0_0 d = ks m c := by
  unfold Dat.before; rw [if_pos (fetch0_2 t0_0)]; exact funext fun j => rfl
theorem staged2 (c : Dev nD) (d) : (has c kM ((dats m 0 c).before (2 : Fin 6) t0_0 d) : sProp 𝕄) ⊢ pts fullShare c kM (ks m c) := by
  rw [before2]; exact has_pts c kM (ks m c) (ks m c) fun f hf => by
    simp only [Memref.view_whole, View.read_whole] at hf; exact hf
theorem before3 (c : Dev nD) (d) : (dats m 0 c).before (3 : Fin 6) t0_0 d = vs m c := by
  unfold Dat.before; rw [if_pos (fetch0_3 t0_0)]; exact funext fun j => rfl
theorem staged3 (c : Dev nD) (d) : (has c vM ((dats m 0 c).before (3 : Fin 6) t0_0 d) : sProp 𝕄) ⊢ pts fullShare c vM (vs m c) := by
  rw [before3]; exact has_pts c vM (vs m c) (vs m c) fun f hf => by
    simp only [Memref.view_whole, View.read_whole] at hf; exact hf
theorem before4 (c : Dev nD) (d) : (dats m 0 c).before (4 : Fin 6) t0_0 d = wos m c := by
  unfold Dat.before; rw [if_pos (fetch0_4 t0_0)]; exact funext fun j => rfl
theorem staged4 (c : Dev nD) (d) : (has c woM ((dats m 0 c).before (4 : Fin 6) t0_0 d) : sProp 𝕄) ⊢ pts fullShare c woM (wos m c) := by
  rw [before4]; exact has_pts c woM (wos m c) (wos m c) fun f hf => by
    simp only [Memref.view_whole, View.read_whole] at hf; exact hf

theorem sound_body (c : Dev nD) : bodyPre m c ⊢ wp frame (wpE (defs₀ (F := F)) 𝒱₀ (c : Thread nD τ) none) Set.univ
    (cc0_body (F := F) xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) ptM (Memref.isWhole_whole _) rbM (Memref.isWhole_whole _) sbM (Memref.isWhole_whole _) tbM (Memref.isWhole_whole _) cc0_scratch6 cc0_scratch7 cc0_scratch8 cc0_scratch9 cc0_scratch10 cc0_scratch11) (fun _ => bodyPost m c) := by
  have hbody (K : Dev nD × Fin 15 → ℕ) {Q : PUnit → sProp 𝕄} :
      iprop(Ctx m K ∗ bodyIn (F := F) c ∗ ops m c ∗ some_ (F := F) c oM ∗ owe (F := F) c (O₀ c))
        ⊢ iprop(((bodyOut (F := F) c ∗ ops m c ∗ pts fullShare c oM (outv m c) ∗ owe (F := F) c 0) -∗ Q ⟨⟩)
          -∗ wp frame (wpE (defs₀ (F := F)) 𝒱₀ (c : Thread nD τ) none) Set.univ (cc0_body (F := F) xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) ptM (Memref.isWhole_whole _) rbM (Memref.isWhole_whole _) sbM (Memref.isWhole_whole _) tbM (Memref.isWhole_whole _) cc0_scratch6 cc0_scratch7 cc0_scratch8 cc0_scratch9 cc0_scratch10 cc0_scratch11) Q) := by
    by_cases h : c = 0
    · subst h; exact body_zero m K
    · exact body_ne m K c h
  unfold bodyPre Φ₀ start
  iintro ⟨⟨⟨⟨%K, #HC⟩, Hp, Ht, Hc⟩, Hs⟩, Ho, ⟨%d0, H0⟩, ⟨%d1, H1⟩, ⟨%d2, H2⟩, ⟨%d3, H3⟩, ⟨%d4, H4⟩, ⟨%d5, H5⟩⟩
  ihave H0 := (staged0 m c d0) $$ H0
  ihave H1 := (staged1 m c d1) $$ H1
  ihave H2 := (staged2 m c d2) $$ H2
  ihave H3 := (staged3 m c d3) $$ H3
  ihave H4 := (staged4 m c d4) $$ H4
  ihave H5 := (has_some (F := F) c) $$ H5
  unfold Dat.owesAt Pipeline.owesWithin
  icases Ho with ⟨%W, %hW, HO⟩
  iapply (hbody K) $$ [Hp Ht Hc Hs H0 H1 H2 H3 H4 H5 HO]
  · isplitr; · iexact HC
    isplitl [Hp Ht Hc Hs]
    · unfold bodyIn
      isplitl [Hp]; · iexact Hp
      isplitl [Ht]; · iexact Ht
      isplitl [Hc]; · iexact Hc
      iexact Hs
    isplitl [H0 H1 H2 H3 H4]
    · unfold ops
      isplitl [H0]; · iexact H0
      isplitl [H1]; · iexact H1
      isplitl [H2]; · iexact H2
      isplitl [H3]; · iexact H3
      iexact H4
    isplitl [H5]; · iexact H5
    unfold owe
    iexists W
    iexact HO
  iintro ⟨Hb, Hops, Hout, HO⟩
  unfold bodyPost ops owe Dat.owesAt Pipeline.owesWithin
  icases Hops with ⟨Hx, Hwq, HK, HV, Hwo⟩
  icases HO with ⟨%W', HO⟩
  isplitl [Hb]; · iexact Hb
  isplitl [HO]
  · iexists W'
    isplitr; · ipureintro; exact fun _ _ => Or.inl trivial
    iexact HO
  isplitl [Hx]; · iapply (pts_has c (xs m c)) $$ Hx
  isplitl [Hwq]; · iapply (pts_has c (wqs m c)) $$ Hwq
  isplitl [HK]; · iapply (pts_has c (ks m c)) $$ HK
  isplitl [HV]; · iapply (pts_has c (vs m c)) $$ HV
  isplitl [Hwo]; · iapply (pts_has c (wos m c)) $$ Hwo
  iapply (pts_has c (outv m c)) $$ Hout

set_option maxRecDepth 4000 in
/-- The library's body obligation on device `c`. -/
theorem body_obligation (c : Dev nD) : BodyObligation (dats m 0 c) (defs₀ (F := F)) 𝒱₀ () Set.univ := fun t => by
  rw [show t = t0_0 from fin_N0 t]
  rw [bigSep_W0, bigSep_W0]
  exact sound_body m c

/-! ## What the launch deals -/

theorem ownSemFacts : Pipeline.OwnSemFacts cfg0.spec osem := by decide

theorem share_eq (c : Dev nD) (w : Fin cfg0.W) : (dats m 0 c).share w = fullShare := by unfold Dat.share; split <;> rfl

def allCells : Finset (GSem nD τ sig) := Finset.univ.map ⟨kcell, kcell_injective⟩

set_option backward.proofsInPublic true in
/-- The tokens by payer: device, semaphore and payer of the `j`-th token that device `c` spends. Those of the key and value
    copies are device 0's; the like tokens of other devices are spent nowhere. -/
def tokCode (c : Dev nD) (j : Fin 21) : Dev nD × Fin 15 × Fin 4 :=
  if j.val < 3 then (nth c (j.val + 1), 0, c)
  else if h : j.val < 6 then (c, ⟨j.val + 6, by omega⟩, 0)
  else if j.val = 6 then (p1 c, 12, 0) else if j.val = 7 then (p2 c, 13, 0) else if j.val = 8 then (p1 c, 14, 0)
  else if h : j.val < 15 then (0, ⟨j.val - 8, by omega⟩, c)
  else if j.val < 18 then (nth 0 (j.val - 14), 7, c) else (nth 0 (j.val - 17), 8, c)

theorem tokCode_injective : ∀ x y : Dev nD × Fin 21, tokCode x.1 x.2 = tokCode y.1 y.2 → x = y := by decide +kernel

abbrev tokOf (x : Dev nD × Fin 21) : GSem nD τ sig × ℕ × Fin 4 :=
  (kcell ((tokCode x.1 x.2).1, (tokCode x.1 x.2).2.1), 0, (tokCode x.1 x.2).2.2)
theorem tokOf_injective : Function.Injective tokOf := fun x y h => tokCode_injective x y (by
  have h1 := kcell_injective (congrArg Prod.fst h)
  have h2 := congrArg (fun z : GSem nD τ sig × ℕ × Fin 4 => z.2.2) h
  exact Prod.ext (Prod.mk.inj h1).1 (Prod.ext (Prod.mk.inj h1).2 h2))
def allToks : Finset (GSem nD τ sig × ℕ × Fin 4) := Finset.univ.map ⟨tokOf, tokOf_injective⟩

def u₀ : UU := (initOf (Pipeline.cells cfgs cellOf_inj) (Pipeline.launchToks cfgs cellOf_inj), initOf allCells allToks)

/-- What the launch element deals device `c`; -/
def G (c : Dev nD) : sProp 𝕄 :=
  iprop((bigSep Finset.univ fun k : Fin 15 => roundState ER (Rd m) (kcell (c, k)) 0)
    ∗ (bigSep Finset.univ fun k : Fin 15 => iprop(pos (F := F) c k ∗ reached ER (kcell (c, k)) 0)) ∗ toks (F := F) c)
/-- what all devices' cells opened make of it. -/
def G' (c : Dev nD) : sProp 𝕄 :=
  iprop((∃ K, records m K) ∗ (bigSep Finset.univ fun k : Fin 15 => pos (F := F) c k) ∗ toks (F := F) c)

theorem toks_intro (c : Dev nD) : (bigSep Finset.univ fun j : Fin 21 => (tok (tokCode c j).1 (tokCode c j).2.1 (tokCode c j).2.2 : sProp 𝕄)) ⊢ toks (F := F) c := by
  rw [bigSep_univ_eq_bigSepL [0, 1, 2, 3, 4, 5, 6, 7, 8, 9, 10, 11, 12, 13, 14, 15, 16, 17, 18, 19, 20] (by decide) (by decide)]
  show iprop(tok (F := F) (nth c 1) 0 c ∗ tok (F := F) (nth c 2) 0 c ∗ tok (F := F) (nth c 3) 0 c ∗ tok (F := F) c 9 0 ∗ tok (F := F) c 10 0 ∗ tok (F := F) c 11 0
    ∗ tok (F := F) (p1 c) 12 0 ∗ tok (F := F) (p2 c) 13 0 ∗ tok (F := F) (p1 c) 14 0
    ∗ tok (F := F) 0 1 c ∗ tok (F := F) 0 2 c ∗ tok (F := F) 0 3 c ∗ tok (F := F) 0 4 c ∗ tok (F := F) 0 5 c ∗ tok (F := F) 0 6 c
    ∗ tok (F := F) 1 7 c ∗ tok (F := F) 2 7 c ∗ tok (F := F) 3 7 c ∗ tok (F := F) 1 8 c ∗ tok (F := F) 2 8 c ∗ tok (F := F) 3 8 c) ⊢ _
  unfold toks
  iintro ⟨B1, B2, B3, T9, T10, T11, T12, T13, T14, K1, K2, K3, V1, V2, V3, A1, A2, A3, E1, E2, E3⟩
  isplitl [B1 B2 B3]
  · isplitl [B1]; · iexact B1
    isplitl [B2]; · iexact B2
    iexact B3
  isplitl [T9 T10 T11]
  · isplitl [T9]; · iexact T9
    isplitl [T10]; · iexact T10
    iexact T11
  isplitl [T12 T13 T14]
  · isplitl [T12]; · iexact T12
    isplitl [T13]; · iexact T13
    iexact T14
  by_cases h : c = 0
  · subst h
    rw [if_pos rfl]
    unfold kvToks kvTok
    isplitl [K2 A2 V2 E2]
    · isplitl [K2 A2]
      · isplitl [K2]; · iexact K2
        iexact A2
      isplitl [V2]; · iexact V2
      iexact E2
    isplitl [K1 A1 V1 E1]
    · isplitl [K1 A1]
      · isplitl [K1]; · iexact K1
        iexact A1
      isplitl [V1]; · iexact V1
      iexact E1
    isplitl [K3 A3]
    · isplitl [K3]; · iexact K3
      iexact A3
    isplitl [V3]; · iexact V3
    iexact E3
  · rw [if_neg h]; iempintro

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 15 => Φ (kcell (c, k)) := by
    unfold allCells; rw [bigSep_map, bigSep_univ_prod]; rfl
  have hT : bigSep allToks (fun x => (dutyTok ER x.1 x.2.1 x.2.2 : sProp 𝕄)) ⊢ bigSep Finset.univ fun c : Dev nD => toks (F := F) c := by
    unfold allToks; rw [bigSep_map, bigSep_univ_prod]
    exact bigSep_mono fun c _ => toks_intro c
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := hT $$ Htok
  unfold G; simp only [bigSep_sep']
  isplitl [Hst]; · iexact Hst
  isplitl [Hat Hr]
  · isplitl [Hat]; · iexact Hat
    iexact Hr
  iexact Htok

theorem unscopedSems0_eq (c : Dev nD) : (unscopedSems0 c : sProp 𝕄) = zero (F := F) c 0 := by
  unfold unscopedSems0; rw [bigSep_eq_bigSepL_of_eq [SemLoc.reg barS] (by decide) (by decide)]; rfl
theorem ownSems0_eq (c : Dev nD) : (Pipeline.ownSems0 (Ix := Unit) (Name := ℕ) (U := UU) (Lvl := ℕ) (Val := Elt F) (τ := τ) osem c : sProp 𝕄)
    = iprop(zero (F := F) c 1 ∗ zero (F := F) c 2 ∗ zero (F := F) c 3 ∗ zero (F := F) c 4 ∗ zero (F := F) c 5 ∗ zero (F := F) c 6 ∗ zero (F := F) c 7 ∗ zero (F := F) c 8 ∗ zero (F := F) c 9 ∗ zero (F := F) c 10 ∗ zero (F := F) c 11 ∗ zero (F := F) c 12 ∗ zero (F := F) c 13 ∗ zero (F := F) c 14) := by
  rw [Pipeline.ownSems0_eq_of_list c osem [0, 1, 2, 3, 4, 5, 6, 7, 8, 9, 10, 11, 12, 13] (by decide) (by decide)]; rfl

theorem sems0_in (c : Dev nD) :
    iprop(Pipeline.ownSems0 (Ix := Unit) (Name := ℕ) (U := UU) (Lvl := ℕ) (Val := Elt F) (τ := τ) osem c ∗ unscopedSems0 c)
      ⊢ (bigSep Finset.univ fun k : Fin 15 => zero (F := F) c k : sProp 𝕄) := by
  rw [ownSems0_eq, unscopedSems0_eq, fifteen]
  iintro ⟨Ho, Hu⟩
  isplitl [Hu]; · iexact Hu
  iexact Ho
theorem sems0_out (c : Dev nD) : (bigSep Finset.univ fun k : Fin 15 => zero (F := F) c k : sProp 𝕄)
      ⊢ iprop(unscopedSems0 c ∗ Pipeline.ownSems0 (Ix := Unit) (Name := ℕ) (U := UU) (Lvl := ℕ) (Val := Elt F) (τ := τ) osem c) := by
  rw [ownSems0_eq, unscopedSems0_eq, fifteen]

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Fin 15 => iprop(pos (F := F) c k ∗ reached ER (kcell (c, k)) 0)) ∗ toks (F := F) c) := by
  unfold G
  iintro ⟨Hos, Hus, Hst, Hat, Htok⟩
  ihave Hv := (sems0_in (F := F) c) $$ [Hos Hus]
  · isplitl [Hos]; · iexact Hos
    iexact Hus
  imod (show iprop((bigSep Finset.univ fun k : Fin 15 => zero (F := F) c k) ∗ bigSep Finset.univ fun k : Fin 15 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

theorem G'_intro (K : Dev nD × Fin 15 → ℕ) (c : Dev nD) :
    iprop(records m K ∗ (bigSep Finset.univ fun k : Fin 15 => pos (F := F) c k) ∗ toks (F := F) c) ⊢ G' m c := by
  unfold G'
  iintro ⟨HK, Hp, Ht⟩
  isplitl [HK]; · iexists K; iexact HK
  isplitl [Hp]; · iexact Hp
  iexact Ht

theorem regroup :
    (bigSep Finset.univ fun c : Dev nD => iprop((bigSep Finset.univ fun k => iprop(∃ κ : ℕ, cellInv ER (Rd m) κ (kcell (c, k))))
          ∗ (bigSep Finset.univ fun k : Fin 15 => iprop(pos (F := F) c k ∗ reached ER (kcell (c, k)) 0)) ∗ toks (F := F) c) : sProp 𝕄)
      ⊢ bigSep Finset.univ (G' m) := by
  rw [bigSep_sep', bigSep_sep', ← bigSep_univ_prod (fun ck : Dev nD × Fin 15 => iprop(∃ κ : ℕ, cellInv ER (Rd m) κ (kcell ck))),
    bigSep_congr (s := Finset.univ) (fun (c : Dev nD) _ => bigSep_sep' Finset.univ (fun k : Fin 15 => pos (F := F) c k) (fun k => reached ER (kcell (c, k)) 0)),
    bigSep_sep', ← bigSep_univ_prod (fun ck : Dev nD × Fin 15 => (reached ER (kcell ck) 0 : sProp 𝕄))]
  iintro ⟨HI, ⟨Hat, #HR⟩, Htok⟩
  ihave HK := (BI.bigSep_exists_pi Finset.univ (fun (ck : Dev nD × Fin 15) (κ : ℕ) => (cellInv ER (Rd m) κ (kcell ck) : sProp 𝕄))) $$ HI
  icases HK with ⟨%K, #HI⟩
  have hrec : iprop(records m K ∗ bigSep Finset.univ fun c : Dev nD => iprop((bigSep Finset.univ fun k : Fin 15 => pos (F := F) c k) ∗ toks (F := F) c))
      ⊢ bigSep Finset.univ (G' m) :=
    (sep_mono_left (BI.bigSep_of_persistent Finset.univ (records m K))).trans (by
      rw [← bigSep_sep']
      exact bigSep_mono fun c _ => G'_intro m K c)
  iapply hrec
  isplitr
  · unfold records; isplitl; · iexact HI
    iexact HR
  · rw [bigSep_sep']
    isplitl [Hat]; · iexact Hat
    iexact Htok

/-- All devices' semaphores opened at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What is owed to device `c`. -/
def claims (c : Dev nD) : CellTallies nD τ sig Unit :=
  due c 0 3 + due c 12 Np + due c 13 Np + due c 14 Np + (if c = 0 then 0 else due c 7 Nkv + due c 8 Nkv)

theorem claims_own (d : Dev nD) (g : GSem nD τ sig) (h : claims d g ≠ 0) : g.1 = (d : Thread nD τ) := by
  by_contra hg
  have hz (k : Fin 15) (n : ℕ) : due d k n g = 0 := tallyAt_ne_cell (fun he => hg (congrArg Prod.fst he)) _ _
  apply h
  unfold claims
  split <;> simp only [Pi.add_apply, Pi.zero_apply, hz, add_zero]

theorem owed_claims : (∑ d, O₀ d) = ∑ d, claims d := by
  rw [Fin.sum_univ_four, Fin.sum_univ_four]
  have h3 (c : Dev nD) : due c 0 3 = due c 0 1 + due c 0 1 + due c 0 1 := by rw [tallyAt_add, tallyAt_add]
  unfold O₀ Oc claims Okv Ox O1
  rw [if_pos rfl, if_neg (by decide), if_neg (by decide), if_neg (by decide), if_pos rfl, if_neg (by decide), if_neg (by decide), if_neg (by decide)]
  simp only [h3]
  rw [show p1 0 = 3 from rfl, show p1 1 = 2 from rfl, show p1 2 = 1 from rfl, show p1 3 = 0 from rfl,
    show p2 0 = 1 from rfl, show p2 1 = 0 from rfl, show p2 2 = 3 from rfl, show p2 3 = 2 from rfl,
    show nth 0 1 = 1 from rfl, show nth 0 2 = 2 from rfl, show nth 0 3 = 3 from rfl,
    show nth 1 1 = 2 from rfl, show nth 1 2 = 3 from rfl, show nth 1 3 = 0 from rfl,
    show nth 2 1 = 3 from rfl, show nth 2 2 = 0 from rfl, show nth 2 3 = 1 from rfl,
    show nth 3 1 = 0 from rfl, show nth 3 2 = 1 from rfl, show nth 3 3 = 2 from rfl]
  abel

theorem creds_intro (c : Dev nD) : (Pipeline.launchCred O₀ c : sProp 𝕄) ⊢ creds (F := F) c := by
  rw [Pipeline.launchCred_of_sum O₀ claims owed_claims claims_own c]
  unfold claims creds
  refine (cred_add _ _).1.trans ((sep_mono_left ((cred_add _ _).1.trans (sep_mono_left ((cred_add _ _).1.trans (sep_mono_left (cred_add _ _).1))))).trans ?_)
  iintro ⟨⟨⟨⟨H0, H12⟩, H13⟩, H14⟩, Hkv⟩
  isplitl [H0]; · iexact H0
  isplitl [H12]; · iexact H12
  isplitl [H13]; · iexact H13
  isplitl [H14]; · iexact H14
  by_cases h : c = 0
  · rw [if_pos h, if_pos h]; iempintro
  · rw [if_neg h, if_neg h]
    iapply (cred_add _ _).1 $$ Hkv

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G'
  iintro ⟨-, Hlev, Hcr, -, ⟨%K, HK⟩, Hp, Ht⟩
  ihave Hc := (creds_intro (F := F) c) $$ Hcr
  imodintro
  isplitl
  · isplitl [HK Hlev]
    · iexists K
      unfold Ctx
      isplitl [HK]; · iexact HK
      iexact Hlev
    isplitl [Hp]; · iexact Hp
    isplitl [Ht]; · iexact Ht
    iexact Hc
  · iempintro

theorem scr_eq (c : Dev nD) : (Pipeline.scopedRest (Ix := Unit) (Name := ℕ) (U := UU) (Lvl := ℕ) (Val := Elt F) cfg0.spec c : sProp 𝕄) = scr (F := F) c := by
  rw [scopedRest0_eq]
  unfold scr some_ pts
  simp only [View.set_whole]

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scr_eq]
  unfold Φ₀
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = bodyOut (F := F) c from rfl, scr_eq]
  unfold bodyOut
  iintro ⟨Hz, Hr⟩
  ihave Hz := (sems0_out (F := F) c) $$ Hz
  icases Hz with ⟨Hu, Ho⟩
  isplitl [Hu]; · iexact Hu
  isplitl [Ho]; · iexact Ho
  iexact Hr

theorem waits (c : Dev nD) : (levAts L lv : sProp 𝕄) ⊢ Pipeline.cellsWaits cfgs (dats m) () 0 c :=
  Pipeline.cellsWaits_intro cfgs (dats m) () 0 c fun w s t =>
    may_wait (n := 0) c _ _ (by fin_cases w <;> fin_cases s <;> exact Nat.le_refl 0) (by
      rcases t with ⟨_ | _, ht⟩
      · exact above_O₀ c
      · exact above_zero 0)

/-- The memory after the run, at each operand and result. -/
def finalA (c : Dev nD) (w : Fin cfg0.W) : Buf (Elt F) ((cfg0.win w).arr.view.loc (c : Thread nD τ)) := (dats m 0 c).arrAt w cfg0.N

set_option maxRecDepth 8000 in
/-- From any memory with every semaphore at zero, every fair run of the program on the four devices ends, with each device's
    operands and result as computed and every semaphore at zero. -/
theorem run_main : θ_run defs (onTc (τ := τ) (main (F := F))) ⟨m, fun _ => 0, ρ⟩ (fun r =>
    (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP]; · iexact HP
      iexact HG)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

end Cert.Attn

end
-- ==== Proof.Frames.lean ====
/-
What the run of the kernel leaves in the arrays: the arguments as they were, the result at `outv`. At machine floats the mask's name stands for its bits, so one run serves the kernel and its idealization.
-/
module

public import proofs.«01_k».proof.Defs
public import proofs.«01_k».proof.Proof.Launch
public import proofs.«01_k».proof.Proof.Gen.Kernel

@[expose] public section

noncomputable section

namespace Cert.Attn

open Cert.KernelIdeal Cert.KernelIdeal.Gen

open Idealize.ShloMosaic
open Idealize.ShloMosaic.TcCoe
open Idealize.SL.Sem

section

variable {F : FTy → Type} [FloatOps F] [Named F]
variable (m : (ℓ : Loc nD τ sig) → Buf (Elt F) ℓ)

theorem final0 (c : Dev nD) : finalA m c 0 = m ((c : Thread nD τ).loc main_arg0) := (dats m 0 c).arrAt_in 0 rfl _
theorem final1 (c : Dev nD) : finalA m c 1 = m ((c : Thread nD τ).loc main_arg1) := (dats m 0 c).arrAt_in 1 rfl _
theorem final2 (c : Dev nD) : finalA m c 2 = m ((c : Thread nD τ).loc main_arg2) := (dats m 0 c).arrAt_in 2 rfl _
theorem final3 (c : Dev nD) : finalA m c 3 = m ((c : Thread nD τ).loc main_arg3) := (dats m 0 c).arrAt_in 3 rfl _
theorem final4 (c : Dev nD) : finalA m c 4 = m ((c : Thread nD τ).loc main_arg4) := (dats m 0 c).arrAt_in 4 rfl _

/-- The run, array by array. -/
theorem run_arrays (ρ : Dev nD → PrngReg) :
    θ_run defs (onTc (τ := τ) (main (F := F))) ⟨m, fun _ => 0, ρ⟩ (fun r =>
      (∀ c : Dev nD,
        r.2.mem ((c : Thread nD τ).loc main_v1) = finalA m c 5
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
      ∧ r.2.sem = fun _ => 0) :=
  (θ_run defs _ _).mono (fun _ h => ⟨fun c => ⟨h.1 c 5, (h.1 c 0).trans (final0 m c), (h.1 c 1).trans (final1 m c),
    (h.1 c 2).trans (final2 m c), (h.1 c 3).trans (final3 m c), (h.1 c 4).trans (final4 m c)⟩, h.2⟩) (run_main m ρ)

end

/-- At machine floats a named constant is the bits it is written with. -/
local instance namedBits : Named Bits where
  named := fun _ _ {φ} b => Scalar.ofBits φ b

theorem frame_ideal : Cert.quiescent_KernelIdeal := fun m ρ _ =>
  (θ_run defs _ _).mono (fun _ h => ⟨fun c => (h.1 c).2, h.2⟩) (run_arrays (F := Ideal) m ρ)

theorem defs₀_same : Cert.Kernel.defs₀ (F := Bits) = defs₀ (F := Bits) := by
  unfold Cert.Kernel.defs₀ Cert.KernelIdeal.defs₀
  refine congrArg Defs.onTc ?_
  funext l a
  match l with
  | 0 => rfl

theorem defs_same : Cert.Kernel.defs (F := Bits) = defs (F := Bits) :=
  congrArg (Pipeline.defs Cert.Kernel.pcfgs) defs₀_same

theorem frame_kernel : Cert.quiescent_Kernel := fun m ρ _ => by
  rw [defs_same]
  exact (θ_run defs _ _).mono (fun _ h => ⟨fun c => (h.1 c).2, h.2⟩) (run_arrays (F := Bits) m ρ)

end Cert.Attn

end
-- ==== Proof.Soft.lean ====
/-
Weighted sums by softmax over the extended reals: keys with a score of −∞ at the end of the list change nothing, as long as
no score is +∞ and the first is a real number.
-/
module

public import Idealize.ShloMosaic.PureOps.Ideal
public import Idealize.ShloMosaic.PureOps.Ideal.Laws

@[expose] public section

noncomputable section

namespace Cert.Attn

open Idealize.ShloMosaic

/-- The greatest score. -/
def top {n : ℕ} (s : Fin n → EReal) : EReal := Finset.univ.fold max ⊥ s
/-- The exponential of a score less the greatest. -/
def wt {n : ℕ} (s : Fin n → EReal) (k : Fin n) : EReal := Ideal.exp (s k - top s)
/-- The values' sum weighted by softmax of the scores. -/
def soft {n : ℕ} (s v : Fin n → EReal) : EReal := ∑ k, Ideal.div (wt s k) (∑ k', wt s k') * v k

theorem top_eq_sup {n : ℕ} (s : Fin n → EReal) : top s = Finset.univ.sup s := rfl

theorem exp_nonneg (x : EReal) : 0 ≤ Ideal.exp x := by
  induction x with
  | bot => exact le_refl _
  | top => exact le_top
  | coe r => exact EReal.coe_nonneg.2 (Real.exp_pos r).le

/-- A sum over a longer list whose further terms vanish. -/
theorem sum_castLE {n N : ℕ} (h : n ≤ N) (f : Fin N → EReal) (hf : ∀ k : Fin N, n ≤ k.val → f k = 0) :
    ∑ k, f k = ∑ k : Fin n, f (k.castLE h) := by
  obtain ⟨r, rfl⟩ := Nat.exists_eq_add_of_le h
  rw [Fin.sum_univ_add]
  have h0 : ∑ i : Fin r, f (Fin.natAdd n i) = 0 := Finset.sum_eq_zero fun i _ => hf _ (Nat.le_add_right _ _)
  rw [h0, add_zero]
  rfl

theorem top_castLE {n N : ℕ} (h : n ≤ N) (s : Fin N → EReal) (hs : ∀ k : Fin N, n ≤ k.val → s k = ⊥) :
    top s = top fun k : Fin n => s (k.castLE h) := by
  rw [top_eq_sup, top_eq_sup]
  refine le_antisymm (Finset.sup_le fun k _ => ?_) (Finset.sup_le fun k _ => Finset.le_sup (f := s) (Finset.mem_univ _))
  by_cases hk : n ≤ k.val
  · rw [hs k hk]; exact bot_le
  · exact Finset.le_sup (f := fun k : Fin n => s (k.castLE h)) (Finset.mem_univ (⟨k.val, not_le.1 hk⟩ : Fin n))

/-- The weights' sum is not zero where no score is +∞ and some score is a real number. -/
theorem sum_wt_ne_zero {n : ℕ} (s : Fin n → EReal) (ht : ∀ k, s k ≠ ⊤) (k0 : Fin n) (h0 : s k0 ≠ ⊥) : ∑ k, wt s k ≠ 0 := by
  obtain ⟨k, -, hk⟩ := Finset.exists_mem_eq_sup Finset.univ ⟨k0, Finset.mem_univ _⟩ s
  have hle : s k0 ≤ s k := hk ▸ Finset.le_sup (f := s) (Finset.mem_univ k0)
  have hb : s k ≠ ⊥ := fun h => h0 (le_bot_iff.1 (h ▸ hle))
  have h1 : wt s k = 1 := by
    show Ideal.exp (s k - top s) = 1
    rw [top_eq_sup, hk]
    lift s k to ℝ using ⟨ht k, hb⟩ with r
    rw [← EReal.coe_sub, sub_self]
    show ((Real.exp 0 : ℝ) : EReal) = 1
    rw [Real.exp_zero]; rfl
  have h2 : wt s k ≤ ∑ k, wt s k := Finset.single_le_sum (f := wt s) (fun i _ => exp_nonneg _) (Finset.mem_univ k)
  intro h
  rw [h, h1] at h2
  exact absurd h2 (by norm_num)

theorem soft_castLE {n N : ℕ} (h : n ≤ N) (s v : Fin N → EReal) (hs : ∀ k : Fin N, n ≤ k.val → s k = ⊥)
    (ht : ∀ k, s k ≠ ⊤) (k0 : Fin N) (h0 : s k0 ≠ ⊥) :
    soft s v = soft (fun k : Fin n => s (k.castLE h)) (fun k => v (k.castLE h)) := by
  have hw : ∀ k : Fin N, n ≤ k.val → wt s k = 0 := fun k hk => by
    show Ideal.exp (s k - top s) = 0
    rw [hs k hk, EReal.bot_sub]; rfl
  have hne := sum_wt_ne_zero s ht k0 h0
  have hwt : ∀ k : Fin n, wt s (k.castLE h) = wt (fun k : Fin n => s (k.castLE h)) k := fun k => by
    show Ideal.exp (_ - top s) = Ideal.exp (_ - top _)
    rw [top_castLE h s hs]
  have hsum : ∑ k, wt s k = ∑ k : Fin n, wt (fun k : Fin n => s (k.castLE h)) k :=
    (sum_castLE h _ hw).trans (Finset.sum_congr rfl fun k _ => hwt k)
  unfold soft
  rw [sum_castLE h _ fun k hk => ?_]
  · refine Finset.sum_congr rfl fun k _ => ?_
    rw [hwt k, hsum]
  · rw [hw k hk]
    unfold Ideal.div
    rw [if_neg hne, zero_mul, zero_mul]

end Cert.Attn
-- ==== Proof.Head.lean ====
/-
What one head contributes to the output, as a term over its slices; the kernel's two contributions (one per batch row) as
sums of four heads; and one head's contribution read at an index, over the extended reals.
-/
module

public import proofs.«01_k».proof.Proof.Common
public import proofs.«01_k».proof.Proof.Soft
public import Idealize.ShloMosaic.Lib.Pointwise

@[expose] public section

set_option maxRecDepth 16384

noncomputable section

namespace Cert.Attn

open Cert.KernelIdeal Cert.KernelIdeal.Gen
open Idealize.ShloMosaic

variable {F : FTy → Type} [FloatOps F] [Named F]

/-- Which keys a row attends to. -/
def keep : IVec S256x256 1 := k0_pay9 k0_pay5 k0_pay6 k0_pay7 k0_pay8

/-- A head's scores, the others masked out. -/
def scores (q k : FVec F S256x64 .f32) : FVec F S256x256 .f32 :=
  select keep (mulf (matmul dot_S256x64_S256x64_S256x256_1_1_0_0_n_n none q k (constant S256x256 .f32 0x00000000#32))
    (broadcast S256x256 (Scalar.ofBits .f32 0x3E000000#32))) (broadcast S256x256 (Named.named κ "mask" 0xCE6E6B28#32))

/-- The scores less their row's greatest, exponentiated. -/
def expo (s : FVec F S256x256 .f32) : FVec F S256x256 .f32 :=
  exp (subf s (broadcastTo S256x256 (shapeCast S256x1 (multiReduction .maximumf [1] S256 s 0xFF800000#32 reduces_S256x256_S256 (.inl rfl) rfl)
    shapeCasts_S256_S256x1) broadcasts_S256x1_S256x256))

/-- A row's exponentials over their sum. -/
def norm (e : FVec F S256x256 .f32) : FVec F S256x256 .f32 :=
  divf e (broadcastTo S256x256 (shapeCast S256x1 (multiReduction .add [1] S256 e 0x00000000#32 reduces_S256x256_S256 (.inl rfl) rfl)
    shapeCasts_S256_S256x1) broadcasts_S256x1_S256x256)

/-- One head's contribution. -/
def head (q k v : FVec F S256x64 .f32) (w : FVec F S64x512 .f32) : FVec F S256x512 .f32 :=
  matmul dot_S256x64_S64x512_S256x512_1_0_0_1_n_n none
    (matmul dot_S256x256_S256x64_S256x64_1_0_0_1_n_n none (norm (expo (scores q k))) v (constant S256x64 .f32 0x00000000#32))
    w (constant S256x512 .f32 0x00000000#32)

/-- The slices of the four heads: queries, -/
def qh (h : Fin 4) (q : FVec F S256x256 .f32) : FVec F S256x64 .f32 := match h with
  | 0 => extractStridedSlice S256x64 ![0, 0] q slices_S256x256_o0_0_S256x64
  | 1 => extractStridedSlice S256x64 ![0, 64] q slices_S256x256_o0_64_S256x64
  | 2 => extractStridedSlice S256x64 ![0, 128] q slices_S256x256_o0_128_S256x64
  | 3 => extractStridedSlice S256x64 ![0, 192] q slices_S256x256_o0_192_S256x64
/-- keys or values, -/
def kh (h : Fin 4) (kk : Vec F S1x256x4x64 .f32) : FVec F S256x64 .f32 :=
  let x : FVec F S256x4x64 .f32 := shapeCast S256x4x64 kk shapeCasts_S1x256x4x64_S256x4x64
  match h with
  | 0 => shapeCast S256x64 (extractStridedSlice S256x1x64 ![0, 0, 0] x slices_S256x4x64_o0_0_0_S256x1x64) shapeCasts_S256x1x64_S256x64
  | 1 => shapeCast S256x64 (extractStridedSlice S256x1x64 ![0, 1, 0] x slices_S256x4x64_o0_1_0_S256x1x64) shapeCasts_S256x1x64_S256x64
  | 2 => shapeCast S256x64 (extractStridedSlice S256x1x64 ![0, 2, 0] x slices_S256x4x64_o0_2_0_S256x1x64) shapeCasts_S256x1x64_S256x64
  | 3 => shapeCast S256x64 (extractStridedSlice S256x1x64 ![0, 3, 0] x slices_S256x4x64_o0_3_0_S256x1x64) shapeCasts_S256x1x64_S256x64
/-- output rows. -/
def wh (h : Fin 4) (wo : Vec F S256x512 .f32) : FVec F S64x512 .f32 :=
  let x : FVec F S256x512 .f32 := shapeCast S256x512 wo shapeCasts_S256x512_S256x512
  match h with
  | 0 => extractStridedSlice S64x512 ![0, 0] x slices_S256x512_o0_0_S64x512
  | 1 => extractStridedSlice S64x512 ![64, 0] x slices_S256x512_o64_0_S64x512
  | 2 => extractStridedSlice S64x512 ![128, 0] x slices_S256x512_o128_0_S64x512
  | 3 => extractStridedSlice S64x512 ![192, 0] x slices_S256x512_o192_0_S64x512

/-- Four heads' contributions, added in order from zero. -/
def four (q : FVec F S256x256 .f32) (wo : Vec F S256x512 .f32) (kk vv : Vec F S1x256x4x64 .f32) : FVec F S256x512 .f32 :=
  addf (addf (addf (addf (broadcast S256x512 (Scalar.ofBits .f32 0x00000000#32))
    (head (qh 0 q) (kh 0 kk) (kh 0 vv) (wh 0 wo))) (head (qh 1 q) (kh 1 kk) (kh 1 vv) (wh 1 wo)))
    (head (qh 2 q) (kh 2 kk) (kh 2 vv) (wh 2 wo))) (head (qh 3 q) (kh 3 kk) (kh 3 vv) (wh 3 wo))

theorem attn0_eq (q : FVec F S256x256 .f32) (wo : Vec F S256x512 .f32) (kk vv : Vec F S1x256x4x64 .f32) :
    attn0 q wo kk vv = shapeCast S1x256x512 (four q wo kk vv) shapeCasts_S256x512_S1x256x512 := rfl

theorem attn1_eq (q : FVec F S256x256 .f32) (wo : Vec F S256x512 .f32) (kk vv : Vec F S1x256x4x64 .f32) :
    attn1 q wo kk vv = shapeCast S1x256x512 (four q wo kk vv) shapeCasts_S256x512_S1x256x512 := rfl

/-! ## Read at an index -/

/-- The mask's constant is −∞. -/
theorem mask_const : Named.named (F := Ideal) (φ := .f32) κ "mask" 0xCE6E6B28#32 = (⊥ : EReal) := by
  have h : κ "mask" = some (⊥ : EReal) := rfl
  show (κ "mask").getD _ = _
  rw [h]; rfl

theorem ninf_const : Ideal.ofBits .f32 0xFF800000#32 = (⊥ : EReal) := by
  simp [Ideal.ofBits, Ideal.ieee]

/-- A word of the coordinate, floor-divided by 64 the way the kernel spells it. -/
def blockW (a : BitVec 32) : BitVec 32 :=
  Scalar.select
    (IntOp.andi
      (IntOp.cmpi .ne (IntOp.subi (BitVec.setWidth 32 (IntOp.cmpi .sgt a 0#32)) (BitVec.setWidth 32 (IntOp.cmpi .slt a 0#32)))
        (Scalar.subi (Scalar.extui (Scalar.cmpi .sgt 64#32 0#32)) (Scalar.extui (Scalar.cmpi .slt 64#32 0#32))))
      (IntOp.cmpi .ne (IntOp.remsi .vector a 64#32) 0#32))
    (IntOp.subi (IntOp.divsi .vector a 64#32) 1#32) (IntOp.divsi .vector a 64#32)

theorem blockW_eq (i : Fin 256) : blockW (BitVec.ofNat 32 i.val) = BitVec.ofNat 32 (i.val / 64) := by
  revert i; decide +kernel

/-- Comparing block numbers as words compares them. -/
theorem sge_block (a b : Fin 16) :
    IntOp.cmpi .sge (BitVec.ofNat 32 a.val) (BitVec.ofNat 32 b.val) = if b.val ≤ a.val then 1#1 else 0#1 := by
  revert a b; decide +kernel

theorem keep_apply (i k : Fin 256) : keep (ix2 i k) = if k.val / 64 ≤ i.val / 64 then 1#1 else 0#1 := by
  have h : keep (ix2 i k) = IntOp.cmpi .sge (blockW (BitVec.ofNat 32 i.val)) (blockW (BitVec.ofNat 32 k.val)) := by
    unfold keep k0_pay9 k0_pay5 k0_pay6 k0_pay7 k0_pay8
    pointwise
    rfl
  rw [h, blockW_eq, blockW_eq]
  exact sge_block ⟨i.val / 64, by omega⟩ ⟨k.val / 64, by omega⟩

/-- A row's scores: the scaled product with each key, −∞ for the keys it does not attend to. -/
def score {n : ℕ} (i : Fin 256) (q : Fin 64 → EReal) (K : Fin n → Fin 64 → EReal) (k : Fin n) : EReal :=
  if k.val / 64 ≤ i.val / 64 then (∑ d, q d * K k d) * Ideal.ofBits .f32 0x3E000000#32 else ⊥

/-- A row's attention: the values weighted by softmax of the scores. -/
def attend {n : ℕ} (i : Fin 256) (q : Fin 64 → EReal) (K V : Fin n → Fin 64 → EReal) (d : Fin 64) : EReal :=
  soft (score i q K) fun k => V k d

theorem masked (i k : Fin 256) (x : EReal) :
    Scalar.select (keep (ix2 i k)) x (Named.named (F := Ideal) (φ := .f32) κ "mask" 0xCE6E6B28#32) =
      if k.val / 64 ≤ i.val / 64 then x else (⊥ : EReal) := by
  rw [keep_apply, mask_const]
  by_cases h : k.val / 64 ≤ i.val / 64
  · rw [if_pos h, if_pos h]; rfl
  · rw [if_neg h, if_neg h]; rfl

theorem head_apply (q k v : FVec Ideal S256x64 .f32) (w : FVec Ideal S64x512 .f32) (i : Fin 256) (j : Fin 512) :
    head q k v w (ix2 i j) =
      ∑ d : Fin 64, attend i (fun d => q (ix2 i d)) (fun kk d => k (ix2 kk d)) (fun kk d => v (ix2 kk d)) d * w (ix2 d j) := by
  unfold head norm expo scores
  pointwise
  simp only [masked, ninf_const, attend, soft, wt, top]
  unfold score
  rfl

theorem qh_apply (h : Fin 4) (q : FVec Ideal S256x256 .f32) (i : Fin 256) (d : Fin 64) :
    qh h q (ix2 i d) = q (ix2 i ⟨64 * h.val + d.val, by omega⟩) := by
  fin_cases h <;> (unfold qh; pointwise)

theorem kh_apply (h : Fin 4) (q : Vec Ideal S1x256x4x64 .f32) (i : Fin 256) (d : Fin 64) :
    kh h q (ix2 i d) = q (ix4 0 i h d) := by
  fin_cases h <;> (unfold kh; pointwise)

theorem wh_apply (h : Fin 4) (q : Vec Ideal S256x512 .f32) (d : Fin 64) (j : Fin 512) :
    wh h q (ix2 d j) = q (ix2 ⟨64 * h.val + d.val, by omega⟩ j) := by
  fin_cases h <;> (unfold wh; pointwise)

end Cert.Attn
-- ==== Proof.Contrib.lean ====
/-
A device's contribution to the output at an index: over its four heads, the attention of the row over device 0's keys and
values, times the device's rows of the output matrix.
-/
module

public import proofs.«01_k».proof.Proof.Head
public import Idealize.ShloMosaic.Lib.Pipeline.ValueKit

@[expose] public section

set_option maxRecDepth 16384

noncomputable section

namespace Cert.Attn

open Cert.KernelIdeal Cert.KernelIdeal.Gen
open Idealize.ShloMosaic
open Idealize.ShloMosaic.TcCoe

variable (m : (ℓ : Loc nD τ sig) → Buf (Elt Ideal) ℓ)

/-! ## The operands as staged are the arguments -/

theorem xs_eq (c : Dev nD) : xs m c = m ((c : Thread nD τ).loc main_arg0) := funext fun j => by
  have e : ∀ a, win0_0.index t0_0 a = 0 := by decide +kernel
  change m ((c : Thread nD τ).loc main_arg0) ((win0_0.blk t0_0).view.emb j) = _
  congr 1
  blk_ext [e]
theorem wqs_eq (c : Dev nD) : wqs m c = m ((c : Thread nD τ).loc main_arg1) := funext fun j => by
  have e : ∀ a, win0_1.index t0_0 a = 0 := by decide +kernel
  change m ((c : Thread nD τ).loc main_arg1) ((win0_1.blk t0_0).view.emb j) = _
  congr 1
  blk_ext [e]
theorem ks_eq (c : Dev nD) : ks m c = m ((c : Thread nD τ).loc main_arg2) := funext fun j => by
  have e : ∀ a, win0_2.index t0_0 a = 0 := by decide +kernel
  change m ((c : Thread nD τ).loc main_arg2) ((win0_2.blk t0_0).view.emb j) = _
  congr 1
  blk_ext [e]
theorem vs_eq (c : Dev nD) : vs m c = m ((c : Thread nD τ).loc main_arg3) := funext fun j => by
  have e : ∀ a, win0_3.index t0_0 a = 0 := by decide +kernel
  change m ((c : Thread nD τ).loc main_arg3) ((win0_3.blk t0_0).view.emb j) = _
  congr 1
  blk_ext [e]
theorem wos_eq (c : Dev nD) : wos m c = m ((c : Thread nD τ).loc main_arg4) := funext fun j => by
  have e : ∀ a, win0_4.index t0_0 a = 0 := by decide +kernel
  change m ((c : Thread nD τ).loc main_arg4) ((win0_4.blk t0_0).view.emb j) = _
  congr 1
  blk_ext [e]

/-! ## The keys and values dealt: device `c` holds device 0's heads `4 c` and on -/

theorem kcont_apply (c : Dev nD) (b : Fin 2) (k : Fin 256) (h : Fin 4) (d : Fin 64) :
    kcont m c (ix4 b k h d) = m (((0 : Dev nD) : Thread nD τ).loc main_arg2) (ix4 b k ⟨4 * c.val + h.val, by have : c.val < 4 := c.isLt; omega⟩ d) := by
  unfold kcont
  rw [ks_eq]
  generalize m (((0 : Dev nD) : Thread nD τ).loc main_arg2) = X
  have e : (kM.view.read (Elt Ideal) X : Vec Ideal S2x256x16x64 .f32) = X := rfl
  fin_cases c
  · show k0_pay3 (View.ld (kM.view.read (Elt Ideal) X) hd0) (ix4 b k h d) = _
    rw [e]
    unfold k0_pay3
    pointwise
  · show View.ld (kM.view.read (Elt Ideal) X) hd4 (ix4 b k h d) = _
    rw [e]
    pointwise
  · show View.ld (kM.view.read (Elt Ideal) X) hd8 (ix4 b k h d) = _
    rw [e]
    pointwise
  · show View.ld (kM.view.read (Elt Ideal) X) hd12 (ix4 b k h d) = _
    rw [e]
    pointwise

theorem vcont_apply (c : Dev nD) (b : Fin 2) (k : Fin 256) (h : Fin 4) (d : Fin 64) :
    vcont m c (ix4 b k h d) = m (((0 : Dev nD) : Thread nD τ).loc main_arg3) (ix4 b k ⟨4 * c.val + h.val, by have : c.val < 4 := c.isLt; omega⟩ d) := by
  unfold vcont
  rw [vs_eq]
  generalize m (((0 : Dev nD) : Thread nD τ).loc main_arg3) = X
  have e : (vM.view.read (Elt Ideal) X : Vec Ideal S2x256x16x64 .f32) = X := rfl
  fin_cases c
  · show k0_pay4 (View.ld (vM.view.read (Elt Ideal) X) hd0) (ix4 b k h d) = _
    rw [e]
    unfold k0_pay4
    pointwise
  · show View.ld (vM.view.read (Elt Ideal) X) hd4 (ix4 b k h d) = _
    rw [e]
    pointwise
  · show View.ld (vM.view.read (Elt Ideal) X) hd8 (ix4 b k h d) = _
    rw [e]
    pointwise
  · show View.ld (vM.view.read (Elt Ideal) X) hd12 (ix4 b k h d) = _
    rw [e]
    pointwise

/-! ## A device's contribution -/

theorem four_apply (q : FVec Ideal S256x256 .f32) (wo : Vec Ideal S256x512 .f32) (kk vv : Vec Ideal S1x256x4x64 .f32) (i : Fin 256) (j : Fin 512) :
    four q wo kk vv (ix2 i j) = ∑ h : Fin 4, ∑ d : Fin 64,
      attend i (fun d => q (ix2 i ⟨64 * h.val + d.val, by omega⟩)) (fun k d => kk (ix4 0 k h d)) (fun k d => vv (ix4 0 k h d)) d
        * wo (ix2 ⟨64 * h.val + d.val, by omega⟩ j) := by
  have hh : ∀ h : Fin 4, head (qh h q) (kh h kk) (kh h vv) (wh h wo) (ix2 i j) = ∑ d : Fin 64,
      attend i (fun d => q (ix2 i ⟨64 * h.val + d.val, by omega⟩)) (fun k d => kk (ix4 0 k h d)) (fun k d => vv (ix4 0 k h d)) d
        * wo (ix2 ⟨64 * h.val + d.val, by omega⟩ j) := fun h => by
    rw [head_apply]
    simp only [qh_apply, kh_apply, wh_apply]
  have z : (broadcast S256x512 (Scalar.ofBits (F := Ideal) .f32 0x00000000#32) : FVec Ideal S256x512 .f32) (ix2 i j) = (0 : EReal) := by pointwise
  rw [Fin.sum_univ_four, ← hh 0, ← hh 1, ← hh 2, ← hh 3]
  show (((broadcast S256x512 (Scalar.ofBits (F := Ideal) .f32 0x00000000#32) : FVec Ideal S256x512 .f32) (ix2 i j) + _) + _ + _ + _ : EReal) = _
  rw [z, zero_add]

/-- Device `c`'s share of the output from its blocks `x`, `wq`, `wo` and from keys and values of which it takes heads
    `4 c` and on. -/
def share (x : S2x256x512.Idx → EReal) (wq : S512x256.Idx → EReal) (K V : S2x256x16x64.Idx → EReal) (wo : S256x512.Idx → EReal)
    (c : Fin 4) (b : Fin 2) (i : Fin 256) (j : Fin 512) : EReal :=
  ∑ h : Fin 4, ∑ d : Fin 64,
    attend i (fun d => ∑ e : Fin 512, x (ix3 b i e) * wq (ix2 e ⟨64 * h.val + d.val, by omega⟩))
      (fun k d => K (ix4 b k ⟨4 * c.val + h.val, by omega⟩ d)) (fun k d => V (ix4 b k ⟨4 * c.val + h.val, by omega⟩ d)) d
      * wo (ix2 ⟨64 * h.val + d.val, by omega⟩ j)

/-- What device `c` adds to row `b` of the output: keys and values are device 0's. -/
def contrib (c : Dev nD) (b : Fin 2) (i : Fin 256) (j : Fin 512) : EReal :=
  share (m ((c : Thread nD τ).loc main_arg0)) (m ((c : Thread nD τ).loc main_arg1)) (m (((0 : Dev nD) : Thread nD τ).loc main_arg2))
    (m (((0 : Dev nD) : Thread nD τ).loc main_arg3)) (m ((c : Thread nD τ).loc main_arg4)) c b i j

theorem query0_apply (x : Vec Ideal S2x256x512 .f32) (w : Vec Ideal S512x256 .f32) (i : Fin 256) (t : Fin 256) :
    k0_pay1 (View.ld x row0) (View.ld w wqR) (ix2 i t) = ∑ e : Fin 512, x (ix3 0 i e) * w (ix2 e t) := by
  unfold k0_pay1; pointwise
theorem query1_apply (x : Vec Ideal S2x256x512 .f32) (w : Vec Ideal S512x256 .f32) (i : Fin 256) (t : Fin 256) :
    k0_pay2 (View.ld x row1) (View.ld w wqR) (ix2 i t) = ∑ e : Fin 512, x (ix3 1 i e) * w (ix2 e t) := by
  unfold k0_pay2; pointwise
theorem out_rows_apply (w : Vec Ideal S256x512 .f32) (t : Fin 256) (j : Fin 512) : View.ld w woR (ix2 t j) = w (ix2 t j) := by pointwise
theorem kv0_apply (w : Vec Ideal S2x256x4x64 .f32) (k : Fin 256) (h : Fin 4) (d : Fin 64) :
    View.ld w kv0 (ix4 (0 : Fin 1) k h d) = w (ix4 0 k h d) := by pointwise
theorem kv1_apply (w : Vec Ideal S2x256x4x64 .f32) (k : Fin 256) (h : Fin 4) (d : Fin 64) :
    View.ld w kv1 (ix4 (0 : Fin 1) k h d) = w (ix4 1 k h d) := by pointwise

/-- A row under a leading coordinate of size one, read. -/
theorem up_apply (X : Vec Ideal S256x512 .f32) (i : Fin 256) (j : Fin 512) : up X (ix3 (0 : Fin 1) i j) = X (ix2 i j) := by pointwise

theorem P0_apply (c : Dev nD) (i : Fin 256) (j : Fin 512) : P0 m c (ix3 (0 : Fin 1) i j) = contrib m c 0 i j := by
  unfold P0 contrib share
  refine (congrFun (attn0_eq _ _ _ _) _).trans ((up_apply _ i j).trans ((four_apply _ _ _ _ i j).trans ?_))
  refine Finset.sum_congr rfl fun h _ => Finset.sum_congr rfl fun d _ => ?_
  show attend i (fun d => k0_pay1 (View.ld (xs m c) row0) (View.ld (wqs m c) wqR) (ix2 i ⟨64 * h.val + d.val, _⟩))
    (fun k d => View.ld (kcont m c) kv0 (ix4 (0 : Fin 1) k h d)) (fun k d => View.ld (vcont m c) kv0 (ix4 (0 : Fin 1) k h d)) d
    * View.ld (wos m c) woR (ix2 ⟨64 * h.val + d.val, _⟩ j) = _
  simp only [query0_apply]
  rw [xs_eq, wqs_eq, wos_eq]
  exact congrArg₂ (fun u v : EReal => u * v) (congrFun (congrArg₂ (attend i _)
    (funext fun k => funext fun d => (kv0_apply _ k h d).trans (kcont_apply m c 0 k h d))
    (funext fun k => funext fun d => (kv0_apply _ k h d).trans (vcont_apply m c 0 k h d))) d) (out_rows_apply _ _ j)

theorem P1_apply (c : Dev nD) (i : Fin 256) (j : Fin 512) : P1 m c (ix3 (0 : Fin 1) i j) = contrib m c 1 i j := by
  unfold P1 contrib share
  refine (congrFun (attn1_eq _ _ _ _) _).trans ((up_apply _ i j).trans ((four_apply _ _ _ _ i j).trans ?_))
  refine Finset.sum_congr rfl fun h _ => Finset.sum_congr rfl fun d _ => ?_
  show attend i (fun d => k0_pay2 (View.ld (xs m c) row1) (View.ld (wqs m c) wqR) (ix2 i ⟨64 * h.val + d.val, _⟩))
    (fun k d => View.ld (kcont m c) kv1 (ix4 (0 : Fin 1) k h d)) (fun k d => View.ld (vcont m c) kv1 (ix4 (0 : Fin 1) k h d)) d
    * View.ld (wos m c) woR (ix2 ⟨64 * h.val + d.val, _⟩ j) = _
  simp only [query1_apply]
  rw [xs_eq, wqs_eq, wos_eq]
  exact congrArg₂ (fun u v : EReal => u * v) (congrFun (congrArg₂ (attend i _)
    (funext fun k => funext fun d => (kv1_apply _ k h d).trans (kcont_apply m c 1 k h d))
    (funext fun k => funext fun d => (kv1_apply _ k h d).trans (vcont_apply m c 1 k h d))) d) (out_rows_apply _ _ j)

/-! ## The exchanges add the contributions up -/

theorem pay31_apply (A B : Vec Ideal S1x256x512 .f32) (i : Fin 256) (j : Fin 512) :
    k0_pay31 A B (ix2 i j) = (A (ix3 0 i j) + B (ix3 0 i j) : EReal) := by unfold k0_pay31; pointwise
theorem pay32_apply (A B : Vec Ideal S1x256x512 .f32) (i : Fin 256) (j : Fin 512) :
    k0_pay32 A B (ix2 i j) = (A (ix3 0 i j) + B (ix3 0 i j) : EReal) := by unfold k0_pay32; pointwise
theorem pay33_apply (A : Vec Ideal S256x512 .f32) (B : Vec Ideal S1x256x512 .f32) (i : Fin 256) (j : Fin 512) :
    k0_pay33 A B (ix2 i j) = (A (ix2 i j) + B (ix3 0 i j) : EReal) := by unfold k0_pay33; pointwise
theorem pay34_apply (A : Vec Ideal S256x512 .f32) (i : Fin 256) (j : Fin 512) : k0_pay34 A (ix3 (0 : Fin 1) i j) = A (ix2 i j) := by unfold k0_pay34; pointwise
theorem pay35_apply (A : Vec Ideal S1x256x512 .f32) (i : Fin 256) (j : Fin 512) : k0_pay35 A (ix3 (0 : Fin 1) i j) = A (ix3 0 i j) := by unfold k0_pay35; pointwise
theorem pay36_apply (A : Vec Ideal S1x256x512 .f32) (i : Fin 256) (j : Fin 512) : k0_pay36 A (ix3 (0 : Fin 1) i j) = A (ix3 0 i j) := by unfold k0_pay36; pointwise
theorem pay37_apply (A : Vec Ideal S256x512 .f32) (i : Fin 256) (j : Fin 512) : k0_pay37 A (ix3 (0 : Fin 1) i j) = A (ix2 i j) := by unfold k0_pay37; pointwise

/-- The row a device finishes: row 0 on devices 0 and 1, row 1 on 2 and 3. -/
def rowOf (c : Dev nD) : Fin 2 := if c.val < 2 then 0 else 1

theorem sbv_apply (c : Dev nD) (i : Fin 256) (j : Fin 512) :
    sbv m c (ix2 i j) = contrib m c (rowOf c) i j + contrib m (p1 c) (rowOf c) i j := by
  unfold sbv X0 rowOf
  split
  · rw [pay31_apply, P0_apply, P0_apply]
  · rw [pay32_apply, P1_apply, P1_apply]

theorem tbv_apply (c : Dev nD) (i : Fin 256) (j : Fin 512) :
    tbv m c (ix2 i j) = ∑ c' : Fin 4, contrib m c' (rowOf c) i j := by
  have hr : rowOf (p2 c) = rowOf c := by revert c; decide
  unfold tbv X1
  rw [pay33_apply, up_apply, sbv_apply, sbv_apply, hr, Fin.sum_univ_four]
  generalize rowOf c = b
  revert c
  intro c _
  fin_cases c
  · show contrib m 0 b i j + contrib m 3 b i j + (contrib m 1 b i j + contrib m 2 b i j) = _
    ac_rfl
  · show contrib m 1 b i j + contrib m 2 b i j + (contrib m 0 b i j + contrib m 3 b i j) = _
    ac_rfl
  · show contrib m 2 b i j + contrib m 1 b i j + (contrib m 3 b i j + contrib m 0 b i j) = _
    ac_rfl
  · show contrib m 3 b i j + contrib m 0 b i j + (contrib m 2 b i j + contrib m 1 b i j) = _
    ac_rfl

theorem asm_apply0 (A B : Vec Ideal S1x256x512 .f32) (i : Fin 256) (j : Fin 512) : asm A B (ix3 0 i j) = A (ix3 0 i j) := by
  show A (rowIdx _) = _
  exact congrArg A (funext fun a => by fin_cases a <;> rfl)
theorem asm_apply1 (A B : Vec Ideal S1x256x512 .f32) (i : Fin 256) (j : Fin 512) : asm A B (ix3 1 i j) = B (ix3 0 i j) := by
  show B (rowIdx _) = _
  exact congrArg B (funext fun a => by fin_cases a <;> rfl)

/-- Every device ends with every row the sum of the four contributions. -/
theorem outv_apply (c : Dev nD) (b : Fin 2) (i : Fin 256) (j : Fin 512) :
    outv m c (ix3 b i j) = ∑ c' : Fin 4, contrib m c' b i j := by
  have hp : rowOf (p1 c) = 1 - rowOf c := by revert c; decide
  have h0 : c.val < 2 → rowOf c = 0 := fun h => if_pos h
  have h1 : ¬ c.val < 2 → rowOf c = 1 := fun h => if_neg h
  unfold outv X2
  split
  · rename_i h
    obtain rfl | rfl : b = 0 ∨ b = 1 := by omega
    · rw [asm_apply0, pay34_apply, tbv_apply, h0 h]
    · rw [asm_apply1, pay35_apply, up_apply, tbv_apply, hp, h0 h]; rfl
  · rename_i h
    obtain rfl | rfl : b = 0 ∨ b = 1 := by omega
    · rw [asm_apply0, pay36_apply, up_apply, tbv_apply, hp, h1 h]; rfl
    · rw [asm_apply1, pay37_apply, tbv_apply, h1 h]

end Cert.Attn
-- ==== Proof.RefValue.lean ====
/-
What the reference computes, at an index: its mask (a row attends to the keys whose block of 64 is not after the row's
own), its scores, its weights, and its output as a sum over all 1024 columns of all heads.
-/
module

public import proofs.«01_k».proof.Proof.Head
public import proofs.«01_k».proof.Proof.Gen.ReferenceIdeal.Read
public import Idealize.ShloMosaic.Lib.Pipeline.ValueKit

@[expose] public section

set_option maxRecDepth 16384

noncomputable section

namespace Cert.Attn

open Idealize.ShloMosaic

open Cert.ReferenceIdeal Cert.ReferenceIdeal.Read

theorem row_block (i : Fin 256) : val_main_v3 (F := Ideal) (ix1 i) = BitVec.ofNat 32 (i.val / 64) := by
  revert i
  decide +kernel

theorem key_block (k : Fin 1024) : val_main_v6 (F := Ideal) (ix1 k) = BitVec.ofNat 32 (k.val / 64) := by
  revert k
  decide +kernel

theorem sle_block (a b : Fin 16) :
    IntOp.cmpi .sle (BitVec.ofNat 32 a.val) (BitVec.ofNat 32 b.val) = if a.val ≤ b.val then 1#1 else 0#1 := by
  revert a b; decide +kernel

theorem mask_apply (i : Fin 256) (k : Fin 1024) :
    val_main_v10 (F := Ideal) (ix2 i k) = if k.val / 64 ≤ i.val / 64 then 1#1 else 0#1 := by
  have h8 : val_main_v8 (F := Ideal) (ix2 i k) = BitVec.ofNat 32 (k.val / 64) := by
    rw [val_main_v8_apply, val_main_v7_apply, ← key_block]
    exact congrArg _ (funext fun a => by fin_cases a; rfl)
  have h9 : val_main_v9 (F := Ideal) (ix2 i k) = BitVec.ofNat 32 (i.val / 64) := by
    rw [val_main_v9_apply, val_main_v4_apply, ← row_block]
    exact congrArg _ (funext fun a => by fin_cases a; rfl)
  rw [val_main_v10_apply, h8, h9]
  exact sle_block ⟨k.val / 64, by omega⟩ ⟨i.val / 64, by omega⟩

/-- Every row attends to key 0. -/
theorem row_keep (i : Fin 256) : val_main_v21 (F := Ideal) (ix1 i) = 1#1 := by
  have h : val_main_v21 (F := Ideal) (ix1 i) = Finset.univ.fold IntOp.ori 0#1 fun k : Fin 1024 => val_main_v10 (F := Ideal) (ix2 i k) := by
    unfold val_main_v21
    generalize val_main_v10 (F := Ideal) = M
    pointwise
    rfl
  rw [h]
  have hr : ∀ y z : BitVec 1, (IntOp.ori y z = 1#1) ↔ (y = 1#1) ∨ (z = 1#1) := by decide
  refine (Finset.fold_op_rel_iff_or (r := fun _ y : BitVec 1 => y = 1#1) (c := 0#1) fun {_ y z} => hr y z).2 (Or.inr ⟨0, Finset.mem_univ _, ?_⟩)
  rw [mask_apply, if_pos]
  exact Nat.zero_le _

theorem top_apply (x0 x1 x2) (b : Fin 2) (g : Fin 16) (i : Fin 256) :
    val_main_v16 (F := Ideal) x0 x1 x2 (ix3 b g i) = top fun k : Fin 1024 => (val_main_v15 (F := Ideal) x0 x1 x2 (ix4 b g i k) : EReal) := by
  unfold val_main_v16 top
  generalize val_main_v15 (F := Ideal) x0 x1 x2 = M
  have e : (val_main_cst_2 (F := Ideal) (Shape.Idx.first Cert.ReferenceIdeal.Gen.h_S_) : EReal) = ⊥ := ninf_const
  pointwise
  rw [e]

/-! ## The reference, stage by stage -/

section
variable (x0 : S2x256x512.Idx → EReal) (x1 : S512x1024.Idx → EReal) (x2 x3 : S2x1024x16x64.Idx → EReal) (x4 : S1024x512.Idx → EReal)

theorem query_apply (b : Fin 2) (i : Fin 256) (g : Fin 16) (d : Fin 64) :
    val_main_v1 (F := Ideal) x0 x1 (ix4 b i g d) = (∑ e : Fin 512, x0 (ix3 b i e) * x1 (ix2 e ⟨64 * g.val + d.val, by omega⟩) : EReal) := by
  rw [val_main_v1_apply, val_main_v0_apply]
  refine Finset.sum_congr rfl fun e _ => congrArg₂ (fun u v : EReal => u * v) (congrArg x0 ?_) (congrArg x1 ?_)
  · blk_ext
  · blk_ext

theorem score_apply (b : Fin 2) (g : Fin 16) (i : Fin 256) (k : Fin 1024) :
    val_main_v15 (F := Ideal) x0 x1 x2 (ix4 b g i k) =
      score i (fun d => ∑ e : Fin 512, x0 (ix3 b i e) * x1 (ix2 e ⟨64 * g.val + d.val, by omega⟩)) (fun k d => x2 (ix4 b k g d)) k := by
  have hm : val_main_call2_v1 (F := Ideal) (ix4 b g i k) = val_main_v10 (F := Ideal) (ix2 i k) := by
    rw [val_main_call2_v1_apply, val_main_v14_apply]
    exact congrArg _ (by blk_ext)
  have hb : (val_main_call2_v2 (F := Ideal) (ix4 b g i k) : EReal) = ⊥ := by
    rw [val_main_call2_v2_apply]
    exact ninf_const
  have hs : (val_main_v13 (F := Ideal) x0 x1 x2 (ix4 b g i k) : EReal) =
      (∑ d : Fin 64, (∑ e : Fin 512, x0 (ix3 b i e) * x1 (ix2 e ⟨64 * g.val + d.val, by omega⟩)) * x2 (ix4 b k g d)) * Ideal.ofBits .f32 0x3E000000#32 := by
    rw [val_main_v13_apply, val_main_v11_apply]
    refine congrArg₂ (fun u v : EReal => u * v) (Finset.sum_congr rfl fun d _ => congrArg₂ (fun u v : EReal => u * v) ?_ (congrArg x2 ?_)) ?_
    · rw [← query_apply]
      exact congrArg _ (by blk_ext)
    · blk_ext
    · rw [val_main_v12_apply]; rfl
  rw [val_main_v15_apply, hm, hb, hs, mask_apply]
  unfold score
  by_cases h : k.val / 64 ≤ i.val / 64
  · rw [if_pos h, if_pos h]; rfl
  · rw [if_neg h, if_neg h]; rfl

/-- The scores of a row, as a function of the key. -/
abbrev rowScores (b : Fin 2) (g : Fin 16) (i : Fin 256) : Fin 1024 → EReal :=
  score i (fun d => ∑ e : Fin 512, x0 (ix3 b i e) * x1 (ix2 e ⟨64 * g.val + d.val, by omega⟩)) (fun k d => x2 (ix4 b k g d))

theorem wt_apply (b : Fin 2) (g : Fin 16) (i : Fin 256) (k : Fin 1024) :
    val_main_v20 (F := Ideal) x0 x1 x2 (ix4 b g i k) = wt (rowScores x0 x1 x2 b g i) k := by
  have h : val_main_v18 (F := Ideal) x0 x1 x2 (ix4 b g i k) = top (rowScores x0 x1 x2 b g i) := by
    rw [val_main_v18_apply, val_main_v17_apply]
    refine (congrArg (val_main_v16 (F := Ideal) x0 x1 x2) (show _ = ix3 b g i by blk_ext)).trans ?_
    rw [top_apply]
    exact congrArg top (funext fun k => score_apply x0 x1 x2 b g i k)
  rw [val_main_v20_apply, val_main_v19_apply, h, score_apply]
  rfl

theorem weight_apply (b : Fin 2) (g : Fin 16) (i : Fin 256) (k : Fin 1024) :
    val_main_v29 (F := Ideal) x0 x1 x2 (ix4 b g i k) =
      Ideal.div (wt (rowScores x0 x1 x2 b g i) k) (∑ k', wt (rowScores x0 x1 x2 b g i) k') := by
  have h4 : val_main_call4_v1 (F := Ideal) (ix4 b g i k) = 1#1 := by
    rw [val_main_call4_v1_apply, val_main_v28_apply, ← row_keep i]
    exact congrArg _ (by blk_ext)
  have h26 : val_main_v26 (F := Ideal) x0 x1 x2 (ix4 b g i k) = (∑ k', wt (rowScores x0 x1 x2 b g i) k' : EReal) := by
    rw [val_main_v26_apply]
    refine (congrArg (val_main_v25 (F := Ideal) x0 x1 x2) (show _ = ix4 b g i (0 : Fin 1) by blk_ext)).trans ?_
    have h3 : val_main_call3_v1 (F := Ideal) (ix4 b g i (0 : Fin 1)) = 1#1 := by
      rw [val_main_call3_v1_apply, val_main_v22_apply, ← row_keep i]
      exact congrArg _ (by blk_ext)
    rw [val_main_v25_apply, h3, val_main_v24_apply]
    refine (congrArg (val_main_v23 (F := Ideal) x0 x1 x2) (show _ = ix3 b g i by blk_ext)).trans ?_
    have z : (val_main_cst_4 (F := Ideal) (Shape.Idx.first Cert.ReferenceIdeal.Gen.h_S_) : EReal) = 0 := by
      show Ideal.ofBits .f32 0x00000000#32 = 0
      simp [Ideal.ofBits, Ideal.ieee]
    rw [val_main_v23_apply, z, zero_add]
    refine Finset.sum_congr rfl fun k' _ => ?_
    rw [← wt_apply]
    exact congrArg _ (by blk_ext)
  rw [val_main_v29_apply, h4, val_main_v27_apply, h26, wt_apply]
  rfl

theorem context_apply (b : Fin 2) (i : Fin 256) (g : Fin 16) (d : Fin 64) :
    val_main_v31 (F := Ideal) x0 x1 x2 x3 (ix4 b i g d) =
      attend i (fun d => ∑ e : Fin 512, x0 (ix3 b i e) * x1 (ix2 e ⟨64 * g.val + d.val, by omega⟩)) (fun k d => x2 (ix4 b k g d))
        (fun k d => x3 (ix4 b k g d)) d := by
  rw [val_main_v31_apply, val_main_v30_apply]
  unfold attend soft
  refine Finset.sum_congr rfl fun k _ => ?_
  rw [mul_comm, ← weight_apply]
  refine congrArg₂ (fun u v : EReal => u * v) (congrArg (val_main_v29 (F := Ideal) x0 x1 x2) ?_) (congrArg x3 ?_)
  · blk_ext
  · blk_ext

/-- The reference's output at an index. -/
theorem reference_apply (b : Fin 2) (i : Fin 256) (j : Fin 512) :
    val_main_v33 (F := Ideal) x0 x1 x2 x3 x4 (ix3 b i j) = (∑ r : Fin 1024,
      attend i (fun d => ∑ e : Fin 512, x0 (ix3 b i e) * x1 (ix2 e ⟨64 * (r.val / 64) + d.val, by omega⟩))
        (fun k d => x2 (ix4 b k ⟨r.val / 64, by omega⟩ d)) (fun k d => x3 (ix4 b k ⟨r.val / 64, by omega⟩ d)) ⟨r.val % 64, by omega⟩
        * x4 (ix2 r j) : EReal) := by
  rw [val_main_v33_apply]
  refine Finset.sum_congr rfl fun r _ => congrArg₂ (fun u v : EReal => u * v) ?_ (congrArg x4 ?_)
  · rw [val_main_v32_apply, ← context_apply x0 x1 x2 x3 b i ⟨r.val / 64, by omega⟩ ⟨r.val % 64, by omega⟩]
    exact congrArg _ (by blk_ext)
  · blk_ext

end

end Cert.Attn
-- ==== Proof.Equation.lean ====
/-
The four devices' shares add up to the reference's output, where the queries and the first 256 keys are real numbers: the
reference's further keys are all masked out, and its 1024 columns are the columns of 4 devices times 4 heads times 64.
-/
module

public import proofs.«01_k».proof.Proof.Contrib
public import proofs.«01_k».proof.Proof.RefValue

@[expose] public section

noncomputable section

namespace Cert.Attn

open Idealize.ShloMosaic

/-! ## Real numbers among the extended reals -/

/-- A real number. -/
def IsReal (x : EReal) : Prop := ∃ r : ℝ, x = r

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.sum {n : ℕ} {f : Fin n → EReal} (h : ∀ k, IsReal (f k)) : IsReal (∑ k, f k) := by
  refine Finset.sum_induction f IsReal ?_ ⟨0, rfl⟩ fun k _ => h k
  rintro x y ⟨r, rfl⟩ ⟨s, rfl⟩
  exact ⟨r + s, (EReal.coe_add r s).symm⟩

theorem scale_real : IsReal (Ideal.ofBits .f32 0x3E000000#32) := by
  show IsReal (Ideal.ieee 8 23 0x3E000000#32)
  unfold Ideal.ieee
  dsimp only
  rw [if_neg (by decide), if_neg (by decide)]
  exact ⟨_, rfl⟩

/-! ## The keys past 256 do not matter -/

theorem attend_castLE (i : Fin 256) (q : Fin 64 → EReal) (hq : ∀ d, IsReal (q d)) (K V : Fin 1024 → Fin 64 → EReal)
    (hK : ∀ (k : Fin 256) (d), IsReal (K (k.castLE (by decide)) d)) (d : Fin 64) :
    attend i q K V d = attend i q (fun k : Fin 256 => K (k.castLE (by decide))) (fun k => V (k.castLE (by decide))) d := by
  have hs : ∀ k : Fin 1024, 256 ≤ k.val → score i q K k = ⊥ := fun k hk => if_neg (by omega)
  have hr : ∀ k : Fin 256, IsReal ((∑ d, q d * K (k.castLE (by decide)) d) * Ideal.ofBits .f32 0x3E000000#32) :=
    fun k => (IsReal.sum fun d => (hq d).mul (hK k d)).mul scale_real
  refine soft_castLE (by decide) (score i q K) (fun k => V k d) hs (fun k => ?_) 0 ?_
  · by_cases hk : 256 ≤ k.val
    · rw [hs k hk]; exact bot_ne_top
    · unfold score
      split
      · obtain ⟨r, h⟩ := hr ⟨k.val, not_le.1 hk⟩
        exact fun e => EReal.coe_ne_top r (h.symm.trans e)
      · exact bot_ne_top
  · obtain ⟨r, h⟩ := hr 0
    unfold score
    rw [if_pos (show (0 : Fin 1024).val / 64 ≤ i.val / 64 from Nat.zero_le _)]
    exact fun e => EReal.coe_ne_bot r (h.symm.trans e)

/-! ## The columns, device by device and head by head -/

/-- A sum over `a * b` places, `b` at a time. -/
theorem sum_split (a b : ℕ) (f : Fin (a * b) → EReal) :
    ∑ r, f r = ∑ x : Fin a, ∑ y : Fin b, f (finProdFinEquiv (x, y)) := by
  rw [← Fintype.sum_prod_type', ← Equiv.sum_comp finProdFinEquiv]

theorem sum_columns (f : Fin 1024 → EReal) :
    ∑ r, f r = ∑ c : Fin 4, ∑ h : Fin 4, ∑ d : Fin 64, f ⟨256 * c.val + 64 * h.val + d.val, by omega⟩ := by
  rw [show ∑ r, f r = ∑ g : Fin 16, ∑ d : Fin 64, f (finProdFinEquiv (g, d)) from sum_split 16 64 f]
  rw [show ∑ g : Fin 16, ∑ d : Fin 64, f (finProdFinEquiv (g, d)) = _ from
    sum_split 4 4 fun g : Fin 16 => ∑ d : Fin 64, f (finProdFinEquiv (g, d))]
  refine Finset.sum_congr rfl fun c _ => Finset.sum_congr rfl fun h _ => Finset.sum_congr rfl fun d _ => ?_
  refine congrArg f (Fin.ext ?_)
  show d.val + 64 * (h.val + 4 * c.val) = 256 * c.val + 64 * h.val + d.val
  omega

open Cert.KernelIdeal in
theorem shares_eq (x : S2x256x512.Idx → EReal) (wq : Fin 4 → S512x256.Idx → EReal) (K V : S2x256x16x64.Idx → EReal)
    (wo : Fin 4 → S256x512.Idx → EReal) (x1 : Cert.ReferenceIdeal.S512x1024.Idx → EReal)
    (x2 x3 : Cert.ReferenceIdeal.S2x1024x16x64.Idx → EReal) (x4 : Cert.ReferenceIdeal.S1024x512.Idx → EReal)
    (h1 : ∀ (c : Fin 4) (e : Fin 512) (t : Fin 256), wq c (ix2 e t) = x1 (ix2 e ⟨256 * c.val + t.val, by omega⟩))
    (h2 : ∀ (b : Fin 2) (k : Fin 256) (g : Fin 16) (d : Fin 64), K (ix4 b k g d) = x2 (ix4 b (k.castLE (by decide)) g d))
    (h3 : ∀ (b : Fin 2) (k : Fin 256) (g : Fin 16) (d : Fin 64), V (ix4 b k g d) = x3 (ix4 b (k.castLE (by decide)) g d))
    (h4 : ∀ (c : Fin 4) (t : Fin 256) (j : Fin 512), wo c (ix2 t j) = x4 (ix2 ⟨256 * c.val + t.val, by omega⟩ j))
    (rx : ∀ i, IsReal (x i)) (rw' : ∀ c i, IsReal (wq c i)) (rk : ∀ i, IsReal (K i)) (b : Fin 2) (i : Fin 256) (j : Fin 512) :
    (∑ c : Fin 4, share x (wq c) K V (wo c) c b i j) = Cert.ReferenceIdeal.Read.val_main_v33 (F := Ideal) x x1 x2 x3 x4 (ix3 b i j) := by
  rw [reference_apply, sum_columns]
  refine Finset.sum_congr rfl fun c _ => Finset.sum_congr rfl fun h _ => Finset.sum_congr rfl fun d _ => ?_
  have hg : (256 * c.val + 64 * h.val + d.val) / 64 = 4 * c.val + h.val := by omega
  have hd : (256 * c.val + 64 * h.val + d.val) % 64 = d.val := by omega
  have hq : (fun d' : Fin 64 => ∑ e : Fin 512, x (ix3 b i e) * x1 (ix2 e ⟨64 * ((256 * c.val + 64 * h.val + d.val) / 64) + d'.val, by omega⟩)) =
      fun d' => ∑ e : Fin 512, x (ix3 b i e) * wq c (ix2 e ⟨64 * h.val + d'.val, by omega⟩) := by
    funext d'
    refine Finset.sum_congr rfl fun e _ => congrArg (x (ix3 b i e) * ·) ?_
    rw [h1]
    exact congrArg x1 (congrArg (ix2 e) (Fin.ext (by show 64 * _ + _ = 256 * _ + (64 * _ + _); omega)))
  have hG : (⟨(256 * c.val + 64 * h.val + d.val) / 64, by omega⟩ : Fin 16) = ⟨4 * c.val + h.val, by omega⟩ := Fin.ext hg
  have hD : (⟨(256 * c.val + 64 * h.val + d.val) % 64, by omega⟩ : Fin 64) = d := Fin.ext hd
  dsimp only
  rw [hq, hG, hD, h4]
  refine congrArg₂ (fun u v : EReal => u * v) ?_ (congrArg x4 (congrArg (fun t => ix2 t j) (Fin.ext (Nat.add_assoc _ _ _).symm)))
  rw [attend_castLE i _ (fun d' => IsReal.sum fun e => (rx _).mul (rw' c _)) _ _ fun k d' => by rw [← h2]; exact rk _]
  simp only [h2, h3]

end Cert.Attn
-- ==== Proof.Value.lean ====
/-
The idealized kernel computes the idealized reference: on every device the result is the reference's, where no input to the
scores is infinite.
-/
module

public import proofs.«01_k».proof.Proof.Equation
public import proofs.«01_k».proof.Proof.Frames
public import proofs.«01_k».proof.Proof.Gen.ReferenceIdeal

@[expose] public section

noncomputable section

namespace Cert.Attn

open Idealize.ShloMosaic
open Idealize.ShloMosaic.TcCoe
open Idealize.SL.Sem

/-! ## The precondition -/

/-- What the precondition states over, for the kernel and for the reference. -/
theorem pre_facts : Cert.Pre_finite_KernelIdeal.Facts where
  bcast_S_S2x256x512 := by decide
  bcast_S_S512x256 := by decide
  bcast_S_S2x256x16x64 := by decide
theorem pre_reference_facts : Cert.Pre_finite_ReferenceIdeal.Facts where
  bcast_S_S2x256x512 := by decide
  bcast_S_S512x1024 := by decide
  bcast_S_S2x1024x16x64 := by decide

/-- An absolute value below +∞ is a real number's. -/
theorem real_of_lt (x : EReal) (h : Ideal.cmp .olt (max x (-x)) (Ideal.ofBits .f32 0x7F800000#32) = 1#1) : IsReal x := by
  have e : Ideal.ofBits .f32 0x7F800000#32 = (⊤ : EReal) := by simp [Ideal.ofBits, Ideal.ieee]
  rw [e] at h
  induction x with
  | bot => exact absurd h (by simp [Ideal.cmp])
  | top => exact absurd h (by simp [Ideal.cmp])
  | coe r => exact ⟨r, rfl⟩

section
variable (m : (ℓ : Loc KernelIdeal.nD KernelIdeal.τ KernelIdeal.sig) → Buf (Elt Ideal) ℓ)

theorem pre_real (h : Cert.Pre_KernelIdeal_finite_KernelIdeal (hPre_finite_KernelIdeal := pre_facts) m) (c : Dev KernelIdeal.nD) :
    (∀ i, IsReal (m ((c : Thread KernelIdeal.nD KernelIdeal.τ).loc KernelIdeal.main_arg0) i))
    ∧ (∀ i, IsReal (m ((c : Thread KernelIdeal.nD KernelIdeal.τ).loc KernelIdeal.main_arg1) i))
    ∧ (∀ i, IsReal (m ((c : Thread KernelIdeal.nD KernelIdeal.τ).loc KernelIdeal.main_arg2) i)) :=
  ⟨fun i => real_of_lt _ (congrFun (h c).1 i), fun i => real_of_lt _ (congrFun (h c).2.1 i), fun i => real_of_lt _ (congrFun (h c).2.2 i)⟩

/-- The result array after the run. -/
theorem final5 (c : Dev KernelIdeal.nD) : finalA m c 5 = outv m c := by
  refine (dats m 0 c).arrAt_eq_of_after_last 5 KernelIdeal.Gen.t0_0 (by decide +kernel) _ fun j => ?_
  blk_simp
  rfl

end

/-! ## The blocks of the reference's arguments -/

theorem block_wq (X : Cert.ReferenceIdeal.S512x1024.Idx → EReal) (c : Fin 4) (e : Fin 512) (t : Fin 256) :
    (Layout.block ⟨2, ![512, 256]⟩ ⟨2, ![512, 1024]⟩ 1 4 c X) (ix2 e t) = X (ix2 e ⟨256 * c.val + t.val, by omega⟩) := by
  refine congrArg X (funext fun a => Fin.ext ?_)
  match a with
  | ⟨0, _⟩ => rfl
  | ⟨1, _⟩ => exact congrArg (· + t.val) (Nat.mul_comm c.val 256)

theorem block_wo (X : Cert.ReferenceIdeal.S1024x512.Idx → EReal) (c : Fin 4) (t : Fin 256) (j : Fin 512) :
    (Layout.block ⟨2, ![256, 512]⟩ ⟨2, ![1024, 512]⟩ 0 4 c X) (ix2 t j) = X (ix2 ⟨256 * c.val + t.val, by omega⟩ j) := by
  refine congrArg X (funext fun a => Fin.ext ?_)
  match a with
  | ⟨0, _⟩ => exact congrArg (· + t.val) (Nat.mul_comm c.val 256)
  | ⟨1, _⟩ => rfl

/-- Device 0's block of the keys, or of the values, is the first 256 of them. -/
theorem block_kv (X : Cert.ReferenceIdeal.S2x1024x16x64.Idx → EReal) (b : Fin 2) (k : Fin 256) (g : Fin 16) (d : Fin 64) :
    (Layout.block ⟨4, ![2, 256, 16, 64]⟩ ⟨4, ![2, 1024, 16, 64]⟩ 1 4 0 X) (ix4 b k g d) = X (ix4 b (k.castLE (by decide)) g d) := by
  refine congrArg X (funext fun a => Fin.ext ?_)
  match a with
  | ⟨0, _⟩ => rfl
  | ⟨1, _⟩ => exact (congrArg (· + k.val) (Nat.zero_mul 256)).trans (Nat.zero_add _)
  | ⟨2, _⟩ => rfl
  | ⟨3, _⟩ => rfl

/-! ## The equality -/

/-- From arguments that are the blocks of the reference's, and real where they enter the scores, every device's result is the
reference's. -/
theorem result_eq (m : (ℓ : Loc KernelIdeal.nD KernelIdeal.τ KernelIdeal.sig) → Buf (Elt Ideal) ℓ)
    (hm : Cert.Pre_KernelIdeal_finite_KernelIdeal (hPre_finite_KernelIdeal := pre_facts) m)
    (x : KernelIdeal.S2x256x512.Idx → EReal) (x1 : Cert.ReferenceIdeal.S512x1024.Idx → EReal)
    (x2 x3 : Cert.ReferenceIdeal.S2x1024x16x64.Idx → EReal) (x4 : Cert.ReferenceIdeal.S1024x512.Idx → EReal)
    (h0 : ∀ c : Dev KernelIdeal.nD, m ((c : Thread KernelIdeal.nD KernelIdeal.τ).loc KernelIdeal.main_arg0) = x)
    (h1 : ∀ c : Dev KernelIdeal.nD, m ((c : Thread KernelIdeal.nD KernelIdeal.τ).loc KernelIdeal.main_arg1) = Layout.block ⟨2, ![512, 256]⟩ ⟨2, ![512, 1024]⟩ 1 4 c x1)
    (h2 : m (((0 : Dev KernelIdeal.nD) : Thread KernelIdeal.nD KernelIdeal.τ).loc KernelIdeal.main_arg2) = Layout.block ⟨4, ![2, 256, 16, 64]⟩ ⟨4, ![2, 1024, 16, 64]⟩ 1 4 0 x2)
    (h3 : m (((0 : Dev KernelIdeal.nD) : Thread KernelIdeal.nD KernelIdeal.τ).loc KernelIdeal.main_arg3) = Layout.block ⟨4, ![2, 256, 16, 64]⟩ ⟨4, ![2, 1024, 16, 64]⟩ 1 4 0 x3)
    (h4 : ∀ c : Dev KernelIdeal.nD, m ((c : Thread KernelIdeal.nD KernelIdeal.τ).loc KernelIdeal.main_arg4) = Layout.block ⟨2, ![256, 512]⟩ ⟨2, ![1024, 512]⟩ 0 4 c x4)
    (c : Dev KernelIdeal.nD) :
    finalA m c 5 = Cert.ReferenceIdeal.Read.val_main_v33 (F := Ideal) x x1 x2 x3 x4 := by
  refine (final5 m c).trans (funext fun i => ?_)
  have ei : i = ix3 (i 0) (i 1) (i 2) := by
    funext a
    match a with
    | ⟨0, _⟩ => rfl
    | ⟨1, _⟩ => rfl
    | ⟨2, _⟩ => rfl
  rw [ei]
  refine (outv_apply m c (i 0) (i 1) (i 2)).trans (Eq.trans (Finset.sum_congr rfl fun c' _ => ?_)
    (shares_eq x (fun c' => m ((c' : Thread KernelIdeal.nD KernelIdeal.τ).loc KernelIdeal.main_arg1))
      (m (((0 : Dev KernelIdeal.nD) : Thread KernelIdeal.nD KernelIdeal.τ).loc KernelIdeal.main_arg2))
      (m (((0 : Dev KernelIdeal.nD) : Thread KernelIdeal.nD KernelIdeal.τ).loc KernelIdeal.main_arg3))
      (fun c' => m ((c' : Thread KernelIdeal.nD KernelIdeal.τ).loc KernelIdeal.main_arg4)) x1 x2 x3 x4
      (fun c' e t => (congrFun (h1 c') _).trans (block_wq x1 c' e t))
      (fun b k g d => (congrFun h2 _).trans (block_kv x2 b k g d))
      (fun b k g d => (congrFun h3 _).trans (block_kv x3 b k g d))
      (fun c' t j => (congrFun (h4 c') _).trans (block_wo x4 c' t j))
      (h0 0 ▸ (pre_real m hm 0).1) (fun c' => (pre_real m hm c').2.1) (pre_real m hm 0).2.2 (i 0) (i 1) (i 2)))
  unfold contrib
  rw [h0 c']

/-- The idealized kernel computes the idealized reference. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := pre_facts) := fun m g m' g' hm h =>
  ⟨_, (θ_run Cert.KernelIdeal.defs _ _).mono
      (fun r hr c => ⟨(hr.1 c).1.trans (result_eq m hm _ _ _ _ _ (fun c => (h c).1) (fun c => (h c).2.1) (h 0).2.2.1 (h 0).2.2.2.1
        (fun c => (h c).2.2.2.2) c), (hr.1 c).2⟩) (run_arrays (F := Ideal) m g),
    (θ_run Cert.ReferenceIdeal.defs _ _).mono
      (fun r hr => ⟨(hr 0).1.trans (Cert.ReferenceIdeal.Read.val_main_v33_eq m' 0), (hr 0).2⟩) (Cert.ReferenceIdeal.Value.run m' g')⟩

end Cert.Attn
-- ==== Proof.lean ====
/-
The claims about the attention kernel: the frames, closed from the run of the kernel (Proof/Frames.lean) and the run of the
reference; the idealization's one named constant; and the equality with the reference (Proof/Value.lean).
-/
module

public import proofs.«01_k».proof.Defs
public import proofs.«01_k».proof.Proof.Gen.Kernel
public import proofs.«01_k».proof.Proof.Gen.ReferenceIdeal
public import proofs.«01_k».proof.Proof.Gen.ReferenceIdeal.Read
public import proofs.«01_k».proof.Proof.Frames
public import proofs.«01_k».proof.Proof.Value
public import Idealize.ShloMosaic.Lib.Quiescent

@[expose] public section

noncomputable section

namespace Cert.Proof

open Idealize.ShloMosaic Idealize.SL.Sem

/-- The reference is host operations only: its machine has no semaphore. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run m ρ)

theorem claim : Cert.Claim := ⟨Cert.Kernel.Gen.facts, Cert.KernelIdeal.Gen.facts, Cert.ReferenceIdeal.Gen.facts,
  Cert.Attn.pre_facts, Cert.Attn.pre_reference_facts,
  Cert.Attn.frame_kernel, Cert.Attn.frame_ideal, fun m ρ _ => Cert.Attn.frame_ideal m ρ trivial,
  frame_reference, fun m ρ _ => frame_reference m ρ trivial,
  IdealRules.named_const.statement Cert.KernelIdeal.κ "mask" .f32 0xCE6E6B28#32 ⊥ rfl, Cert.Attn.algebraic⟩

end Cert.Proof

end
